-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_lit [hPre_finite_and_lit : Cert.Pre_finite_and_lit.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_lit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_lit [hPre_finite_and_lit : Cert.Pre_finite_and_lit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_lit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_lit [hKernelIdeal : Cert.KernelIdeal.Facts] [hPre_finite_and_lit : Cert.Pre_finite_and_lit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_lit m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_lit [hReferenceIdeal : Cert.ReferenceIdeal.Facts] [hPre_finite_and_lit : Cert.Pre_finite_and_lit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_lit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_lit [hKernelIdeal : Cert.KernelIdeal.Facts] [hReferenceIdeal : Cert.ReferenceIdeal.Facts] [hPre_finite_and_lit : Cert.Pre_finite_and_lit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_lit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_lit : Cert.Pre_finite_and_lit.Facts),
    quiescent_Kernel (hKernel := hKernel)
    ∧ quiescent_KernelIdeal (hKernelIdeal := hKernelIdeal)
    ∧ quiescent_KernelIdeal_pre_finite_and_lit (hKernelIdeal := hKernelIdeal) (hPre_finite_and_lit := hPre_finite_and_lit)
    ∧ quiescent_ReferenceIdeal (hReferenceIdeal := hReferenceIdeal)
    ∧ quiescent_ReferenceIdeal_pre_finite_and_lit (hReferenceIdeal := hReferenceIdeal) (hPre_finite_and_lit := hPre_finite_and_lit)
    ∧ preserves_Kernel_KernelIdeal
    ∧ algebraic_KernelIdeal_ReferenceIdeal_pre_finite_and_lit (hKernelIdeal := hKernelIdeal) (hReferenceIdeal := hReferenceIdeal) (hPre_finite_and_lit := hPre_finite_and_lit)
-- ==== Pre_finite_and_lit.lean ====
abbrev S3x2048x2048 : Shape := ⟨3, ![3, 2048, 2048]⟩
abbrev S3x1 : Shape := ⟨2, ![3, 1]⟩
abbrev S1x2048x2048 : Shape := ⟨3, ![1, 2048, 2048]⟩
abbrev S2048x2048 : Shape := ⟨2, ![2048, 2048]⟩
abbrev S_ : Shape := ⟨0, ![]⟩

class Facts : Prop where
  slices_S3x2048x2048_S1x2048x2048_0_0_0 : S3x2048x2048.Slices ![0, 0, 0] S1x2048x2048
  shapeCasts_S1x2048x2048_S2048x2048 : S1x2048x2048.ShapeCasts S2048x2048
  slices_S3x2048x2048_S1x2048x2048_1_0_0 : S3x2048x2048.Slices ![1, 0, 0] S1x2048x2048
  slices_S3x2048x2048_S1x2048x2048_2_0_0 : S3x2048x2048.Slices ![2, 0, 0] S1x2048x2048
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S3x2048x2048 : S_.BroadcastsInDim S3x2048x2048 (![] : Fin 0 → Fin S3x2048x2048.rank)
  reducesTo_S3x2048x2048_S_d0_1_2 : S3x2048x2048.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_v13 : IVec S_ 1) (main_v17 : IVec S_ 1) (main_v18 : FVec F S3x1 .f32) (main_cst_2 : FVec F S_ .f32) : IVec S_ 1 :=
  let main_v19 : FVec F S3x1 .f32 := broadcastInDim S3x1 ![] bcast_S_S3x1 main_cst_2
  let main_v20 : IVec S3x1 1 := cmpf .olt main_v18 main_v19
  let main_c_3 : IVec S_ 1 := constantI S_ 1 1#1
  let main_v21 : IVec S_ 1 := (fun x v => Host.reduce IntOp.andi x v reducesTo_S3x1_S_d0_1 h_S_) main_v20 main_c_3
  let main_v22 : IVec S_ 1 := andi main_v17 main_v21
  let main_v23 : IVec S_ 1 := andi main_v22 main_v13
  main_v23

def fn {F : FTy → Type} [FloatOps F] (main_arg0 : FVec F S3x2048x2048 .f32) (main_arg1 : FVec F S3x1 .f32) : IVec S_ 1 :=
  let main_v0 : FVec F S1x2048x2048 .f32 := (extractStridedSlice S1x2048x2048 ![0, 0, 0] · slices_S3x2048x2048_S1x2048x2048_0_0_0) main_arg0
  let main_v1 : FVec F S2048x2048 .f32 := shapeCast S2048x2048 main_v0 shapeCasts_S1x2048x2048_S2048x2048
  let main_v2 : FVec F S1x2048x2048 .f32 := (extractStridedSlice S1x2048x2048 ![1, 0, 0] · slices_S3x2048x2048_S1x2048x2048_1_0_0) main_arg0
  let main_v3 : FVec F S2048x2048 .f32 := shapeCast S2048x2048 main_v2 shapeCasts_S1x2048x2048_S2048x2048
  let main_v4 : FVec F S1x2048x2048 .f32 := (extractStridedSlice S1x2048x2048 ![2, 0, 0] · slices_S3x2048x2048_S1x2048x2048_2_0_0) main_arg0
  let main_v5 : FVec F S2048x2048 .f32 := shapeCast S2048x2048 main_v4 shapeCasts_S1x2048x2048_S2048x2048
  let main_v6 : FVec F S2048x2048 .f32 := mulf main_v1 main_v1
  let main_v7 : FVec F S2048x2048 .f32 := mulf main_v3 main_v3
  let main_v8 : FVec F S2048x2048 .f32 := addf main_v6 main_v7
  let main_v9 : FVec F S2048x2048 .f32 := mulf main_v5 main_v5
  let main_v10 : FVec F S2048x2048 .f32 := addf main_v8 main_v9
  let main_cst : FVec F S_ .f32 := constant S_ .f32 0x0DA24260#32
  let main_v11 : FVec F S2048x2048 .f32 := broadcastInDim S2048x2048 ![] bcast_S_S2048x2048 main_cst
  let main_v12 : IVec S2048x2048 1 := cmpf .oge main_v10 main_v11
  let main_c : IVec S_ 1 := constantI S_ 1 1#1
  let main_v13 : IVec S_ 1 := (fun x v => Host.reduce IntOp.andi x v reducesTo_S2048x2048_S_d0_1 h_S_) main_v12 main_c
  let main_v14 : FVec F S3x2048x2048 .f32 := Host.absf main_arg0
  let main_cst_0 : FVec F S_ .f32 := constant S_ .f32 0x7F800000#32
  let main_v15 : FVec F S3x2048x2048 .f32 := broadcastInDim S3x2048x2048 ![] bcast_S_S3x2048x2048 main_cst_0
  let main_v16 : IVec S3x2048x2048 1 := cmpf .olt main_v14 main_v15
  let main_c_1 : IVec S_ 1 := constantI S_ 1 1#1
  let main_v17 : IVec S_ 1 := (fun x v => Host.reduce IntOp.andi x v reducesTo_S3x2048x2048_S_d0_1_2 h_S_) main_v16 main_c_1
  let main_v18 : FVec F S3x1 .f32 := Host.absf main_arg1
  let main_cst_2 : FVec F S_ .f32 := constant S_ .f32 0x7F800000#32
  fn_part1 (F := F) main_v13 main_v17 main_v18 main_cst_2
-- ==== Kernel.lean ====
abbrev S3x2048x2048 : Shape := ⟨3, ![3, 2048, 2048]⟩
abbrev S3x1 : Shape := ⟨2, ![3, 1]⟩
abbrev S_ : Shape := ⟨0, ![]⟩
abbrev S16 : Shape := ⟨1, ![16]⟩
abbrev S3 : Shape := ⟨1, ![3]⟩
abbrev S1 : Shape := ⟨1, ![1]⟩
abbrev S2x3x8x1024 : Shape := ⟨4, ![2, 3, 8, 1024]⟩
abbrev S2 : Shape := ⟨1, ![2]⟩
abbrev S1x3x8x1024 : Shape := ⟨4, ![1, 3, 8, 1024]⟩
abbrev S3x8x1024 : Shape := ⟨3, ![3, 8, 1024]⟩
abbrev S1x1x1x16 : Shape := ⟨4, ![1, 1, 1, 16]⟩

abbrev nBuf : Table → Nat
  | .hbm => 9
  | .local .scVector .vmem => 3
  | _ => 0

abbrev bufTy : (tb : Table) → Fin (nBuf tb) → BufTy
  | .hbm, ⟨0, _⟩ => ⟨S3x2048x2048, .f32⟩
  | .hbm, ⟨1, _⟩ => ⟨S3x1, .f32⟩
  | .hbm, ⟨2, _⟩ => ⟨S_, .f32⟩
  | .hbm, ⟨3, _⟩ => ⟨S16, .f32⟩
  | .hbm, ⟨4, _⟩ => ⟨S3, .f32⟩
  | .hbm, ⟨5, _⟩ => ⟨S_, .i32⟩
  | .hbm, ⟨6, _⟩ => ⟨S1, .i32⟩
  | .hbm, ⟨7, _⟩ => ⟨S16, .f32⟩
  | .hbm, ⟨8, _⟩ => ⟨S3x2048x2048, .f32⟩
  | .local .scVector .vmem, ⟨0, _⟩ => ⟨S16, .f32⟩
  | .local .scVector .vmem, ⟨1, _⟩ => ⟨S2x3x8x1024, .f32⟩
  | .local .scVector .vmem, ⟨2, _⟩ => ⟨S2x3x8x1024, .f32⟩
  | _, _ => ⟨S3x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v11 : BitVec 32 := Scalar.addi v2 c0_i32
  let c0_i32_6 : BitVec 32 := 0#32
  ![0, v11.toNat, 0]
def k0_off2 (i : grid0.Coords) (c0_i32_12 : BitVec 32) : Fin 3 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v20 : BitVec 32 := Scalar.addi v2 c0_i32_12
  let c1024_i32 : BitVec 32 := 1024#32
  ![0, v20.toNat, 1024]
@[reducible] def k0_t1_loop : Scf.Loop 32 :=
  let c0_i32_35 : BitVec 32 := 0#32
  let c512_i32 : BitVec 32 := 512#32
  let v37 : BitVec 32 := Scalar.addi c0_i32_35 c512_i32
  let c1_i32_36 : BitVec 32 := 1#32
  ⟨c0_i32_35, v37, c1_i32_36⟩
def k0_off3 (k0_t1 : Fin k0_t1_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_35 : BitVec 32 := 0#32
  let c1_i32_36 : BitVec 32 := 1#32
  let arg10 : BitVec 32 := Scf.iv c0_i32_35 c1_i32_36 k0_t1
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off4 (k0_t1 : Fin k0_t1_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_35 : BitVec 32 := 0#32
  let c1_i32_36 : BitVec 32 := 1#32
  let arg10 : BitVec 32 := Scf.iv c0_i32_35 c1_i32_36 k0_t1
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off5 (k0_t1 : Fin k0_t1_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_35 : BitVec 32 := 0#32
  let c1_i32_36 : BitVec 32 := 1#32
  let arg10 : BitVec 32 := Scf.iv c0_i32_35 c1_i32_36 k0_t1
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t2_loop : Scf.Loop 32 :=
  let c0_i32_75 : BitVec 32 := 0#32
  let c512_i32_76 : BitVec 32 := 512#32
  let v64 : BitVec 32 := Scalar.addi c0_i32_75 c512_i32_76
  let c1_i32_77 : BitVec 32 := 1#32
  ⟨c0_i32_75, v64, c1_i32_77⟩
def k0_off6 (k0_t2 : Fin k0_t2_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_75 : BitVec 32 := 0#32
  let c1_i32_77 : BitVec 32 := 1#32
  let arg10 : BitVec 32 := Scf.iv c0_i32_75 c1_i32_77 k0_t2
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off7 (k0_t2 : Fin k0_t2_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_75 : BitVec 32 := 0#32
  let c1_i32_77 : BitVec 32 := 1#32
  let arg10 : BitVec 32 := Scf.iv c0_i32_75 c1_i32_77 k0_t2
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off8 (k0_t2 : Fin k0_t2_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_75 : BitVec 32 := 0#32
  let c1_i32_77 : BitVec 32 := 1#32
  let arg10 : BitVec 32 := Scf.iv c0_i32_75 c1_i32_77 k0_t2
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t3_loop : Scf.Loop 32 :=
  let c0_i32_129 : BitVec 32 := 0#32
  let c512_i32_130 : BitVec 32 := 512#32
  let v99 : BitVec 32 := Scalar.addi c0_i32_129 c512_i32_130
  let c1_i32_131 : BitVec 32 := 1#32
  ⟨c0_i32_129, v99, c1_i32_131⟩
def k0_off9 (k0_t3 : Fin k0_t3_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_129 : BitVec 32 := 0#32
  let c1_i32_131 : BitVec 32 := 1#32
  let arg10 : BitVec 32 := Scf.iv c0_i32_129 c1_i32_131 k0_t3
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off10 (k0_t3 : Fin k0_t3_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_129 : BitVec 32 := 0#32
  let c1_i32_131 : BitVec 32 := 1#32
  let arg10 : BitVec 32 := Scf.iv c0_i32_129 c1_i32_131 k0_t3
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off11 (k0_t3 : Fin k0_t3_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_129 : BitVec 32 := 0#32
  let c1_i32_131 : BitVec 32 := 1#32
  let arg10 : BitVec 32 := Scf.iv c0_i32_129 c1_i32_131 k0_t3
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t4_loop : Scf.Loop 32 :=
  let c0_i32_182 : BitVec 32 := 0#32
  let c512_i32_183 : BitVec 32 := 512#32
  let v134 : BitVec 32 := Scalar.addi c0_i32_182 c512_i32_183
  let c1_i32_184 : BitVec 32 := 1#32
  ⟨c0_i32_182, v134, c1_i32_184⟩
def k0_off12 (k0_t4 : Fin k0_t4_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_182 : BitVec 32 := 0#32
  let c1_i32_184 : BitVec 32 := 1#32
  let arg10 : BitVec 32 := Scf.iv c0_i32_182 c1_i32_184 k0_t4
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off13 (k0_t4 : Fin k0_t4_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_182 : BitVec 32 := 0#32
  let c1_i32_184 : BitVec 32 := 1#32
  let arg10 : BitVec 32 := Scf.iv c0_i32_182 c1_i32_184 k0_t4
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off14 (k0_t4 : Fin k0_t4_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_182 : BitVec 32 := 0#32
  let c1_i32_184 : BitVec 32 := 1#32
  let arg10 : BitVec 32 := Scf.iv c0_i32_182 c1_i32_184 k0_t4
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t5_loop : Scf.Loop 32 :=
  let c0_i32_236 : BitVec 32 := 0#32
  let c512_i32_237 : BitVec 32 := 512#32
  let v169 : BitVec 32 := Scalar.addi c0_i32_236 c512_i32_237
  let c1_i32_238 : BitVec 32 := 1#32
  ⟨c0_i32_236, v169, c1_i32_238⟩
def k0_off15 (k0_t5 : Fin k0_t5_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_236 : BitVec 32 := 0#32
  let c1_i32_238 : BitVec 32 := 1#32
  let arg10 : BitVec 32 := Scf.iv c0_i32_236 c1_i32_238 k0_t5
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off16 (k0_t5 : Fin k0_t5_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_236 : BitVec 32 := 0#32
  let c1_i32_238 : BitVec 32 := 1#32
  let arg10 : BitVec 32 := Scf.iv c0_i32_236 c1_i32_238 k0_t5
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off17 (k0_t5 : Fin k0_t5_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_236 : BitVec 32 := 0#32
  let c1_i32_238 : BitVec 32 := 1#32
  let arg10 : BitVec 32 := Scf.iv c0_i32_236 c1_i32_238 k0_t5
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t6_loop : Scf.Loop 32 :=
  let c0_i32_289 : BitVec 32 := 0#32
  let c512_i32_290 : BitVec 32 := 512#32
  let v204 : BitVec 32 := Scalar.addi c0_i32_289 c512_i32_290
  let c1_i32_291 : BitVec 32 := 1#32
  ⟨c0_i32_289, v204, c1_i32_291⟩
def k0_off18 (k0_t6 : Fin k0_t6_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_289 : BitVec 32 := 0#32
  let c1_i32_291 : BitVec 32 := 1#32
  let arg10 : BitVec 32 := Scf.iv c0_i32_289 c1_i32_291 k0_t6
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off19 (k0_t6 : Fin k0_t6_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_289 : BitVec 32 := 0#32
  let c1_i32_291 : BitVec 32 := 1#32
  let arg10 : BitVec 32 := Scf.iv c0_i32_289 c1_i32_291 k0_t6
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off20 (k0_t6 : Fin k0_t6_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_289 : BitVec 32 := 0#32
  let c1_i32_291 : BitVec 32 := 1#32
  let arg10 : BitVec 32 := Scf.iv c0_i32_289 c1_i32_291 k0_t6
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t7_loop : Scf.Loop 32 :=
  let c0_i32_343 : BitVec 32 := 0#32
  let c512_i32_344 : BitVec 32 := 512#32
  let v239 : BitVec 32 := Scalar.addi c0_i32_343 c512_i32_344
  let c1_i32_345 : BitVec 32 := 1#32
  ⟨c0_i32_343, v239, c1_i32_345⟩
def k0_off21 (k0_t7 : Fin k0_t7_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_343 : BitVec 32 := 0#32
  let c1_i32_345 : BitVec 32 := 1#32
  let arg10 : BitVec 32 := Scf.iv c0_i32_343 c1_i32_345 k0_t7
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off22 (k0_t7 : Fin k0_t7_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_343 : BitVec 32 := 0#32
  let c1_i32_345 : BitVec 32 := 1#32
  let arg10 : BitVec 32 := Scf.iv c0_i32_343 c1_i32_345 k0_t7
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off23 (k0_t7 : Fin k0_t7_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_343 : BitVec 32 := 0#32
  let c1_i32_345 : BitVec 32 := 1#32
  let arg10 : BitVec 32 := Scf.iv c0_i32_343 c1_i32_345 k0_t7
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t8_loop : Scf.Loop 32 :=
  let c0_i32_396 : BitVec 32 := 0#32
  let c512_i32_397 : BitVec 32 := 512#32
  let v274 : BitVec 32 := Scalar.addi c0_i32_396 c512_i32_397
  let c1_i32_398 : BitVec 32 := 1#32
  ⟨c0_i32_396, v274, c1_i32_398⟩
def k0_off24 (k0_t8 : Fin k0_t8_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_396 : BitVec 32 := 0#32
  let c1_i32_398 : BitVec 32 := 1#32
  let arg10 : BitVec 32 := Scf.iv c0_i32_396 c1_i32_398 k0_t8
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off25 (k0_t8 : Fin k0_t8_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_396 : BitVec 32 := 0#32
  let c1_i32_398 : BitVec 32 := 1#32
  let arg10 : BitVec 32 := Scf.iv c0_i32_396 c1_i32_398 k0_t8
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off26 (k0_t8 : Fin k0_t8_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_396 : BitVec 32 := 0#32
  let c1_i32_398 : BitVec 32 := 1#32
  let arg10 : BitVec 32 := Scf.iv c0_i32_396 c1_i32_398 k0_t8
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t9_loop : Scf.Loop 32 :=
  let c0_i32_450 : BitVec 32 := 0#32
  let c512_i32_451 : BitVec 32 := 512#32
  let v309 : BitVec 32 := Scalar.addi c0_i32_450 c512_i32_451
  let c1_i32_452 : BitVec 32 := 1#32
  ⟨c0_i32_450, v309, c1_i32_452⟩
def k0_off27 (k0_t9 : Fin k0_t9_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_450 : BitVec 32 := 0#32
  let c1_i32_452 : BitVec 32 := 1#32
  let arg10 : BitVec 32 := Scf.iv c0_i32_450 c1_i32_452 k0_t9
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off28 (k0_t9 : Fin k0_t9_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_450 : BitVec 32 := 0#32
  let c1_i32_452 : BitVec 32 := 1#32
  let arg10 : BitVec 32 := Scf.iv c0_i32_450 c1_i32_452 k0_t9
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off29 (k0_t9 : Fin k0_t9_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_450 : BitVec 32 := 0#32
  let c1_i32_452 : BitVec 32 := 1#32
  let arg10 : BitVec 32 := Scf.iv c0_i32_450 c1_i32_452 k0_t9
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t10_loop : Scf.Loop 32 :=
  let c0_i32_503 : BitVec 32 := 0#32
  let c512_i32_504 : BitVec 32 := 512#32
  let v344 : BitVec 32 := Scalar.addi c0_i32_503 c512_i32_504
  let c1_i32_505 : BitVec 32 := 1#32
  ⟨c0_i32_503, v344, c1_i32_505⟩
def k0_off30 (k0_t10 : Fin k0_t10_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_503 : BitVec 32 := 0#32
  let c1_i32_505 : BitVec 32 := 1#32
  let arg10 : BitVec 32 := Scf.iv c0_i32_503 c1_i32_505 k0_t10
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off31 (k0_t10 : Fin k0_t10_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_503 : BitVec 32 := 0#32
  let c1_i32_505 : BitVec 32 := 1#32
  let arg10 : BitVec 32 := Scf.iv c0_i32_503 c1_i32_505 k0_t10
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off32 (k0_t10 : Fin k0_t10_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_503 : BitVec 32 := 0#32
  let c1_i32_505 : BitVec 32 := 1#32
  let arg10 : BitVec 32 := Scf.iv c0_i32_503 c1_i32_505 k0_t10
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t11_loop : Scf.Loop 32 :=
  let c0_i32_557 : BitVec 32 := 0#32
  let c512_i32_558 : BitVec 32 := 512#32
  let v379 : BitVec 32 := Scalar.addi c0_i32_557 c512_i32_558
  let c1_i32_559 : BitVec 32 := 1#32
  ⟨c0_i32_557, v379, c1_i32_559⟩
def k0_off33 (k0_t11 : Fin k0_t11_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_557 : BitVec 32 := 0#32
  let c1_i32_559 : BitVec 32 := 1#32
  let arg10 : BitVec 32 := Scf.iv c0_i32_557 c1_i32_559 k0_t11
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off34 (k0_t11 : Fin k0_t11_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_557 : BitVec 32 := 0#32
  let c1_i32_559 : BitVec 32 := 1#32
  let arg10 : BitVec 32 := Scf.iv c0_i32_557 c1_i32_559 k0_t11
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off35 (k0_t11 : Fin k0_t11_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_557 : BitVec 32 := 0#32
  let c1_i32_559 : BitVec 32 := 1#32
  let arg10 : BitVec 32 := Scf.iv c0_i32_557 c1_i32_559 k0_t11
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t12_loop : Scf.Loop 32 :=
  let c0_i32_610 : BitVec 32 := 0#32
  let c512_i32_611 : BitVec 32 := 512#32
  let v414 : BitVec 32 := Scalar.addi c0_i32_610 c512_i32_611
  let c1_i32_612 : BitVec 32 := 1#32
  ⟨c0_i32_610, v414, c1_i32_612⟩
def k0_off36 (k0_t12 : Fin k0_t12_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_610 : BitVec 32 := 0#32
  let c1_i32_612 : BitVec 32 := 1#32
  let arg10 : BitVec 32 := Scf.iv c0_i32_610 c1_i32_612 k0_t12
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off37 (k0_t12 : Fin k0_t12_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_610 : BitVec 32 := 0#32
  let c1_i32_612 : BitVec 32 := 1#32
  let arg10 : BitVec 32 := Scf.iv c0_i32_610 c1_i32_612 k0_t12
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off38 (k0_t12 : Fin k0_t12_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_610 : BitVec 32 := 0#32
  let c1_i32_612 : BitVec 32 := 1#32
  let arg10 : BitVec 32 := Scf.iv c0_i32_610 c1_i32_612 k0_t12
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t13_loop : Scf.Loop 32 :=
  let c0_i32_664 : BitVec 32 := 0#32
  let c512_i32_665 : BitVec 32 := 512#32
  let v449 : BitVec 32 := Scalar.addi c0_i32_664 c512_i32_665
  let c1_i32_666 : BitVec 32 := 1#32
  ⟨c0_i32_664, v449, c1_i32_666⟩
def k0_off39 (k0_t13 : Fin k0_t13_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_664 : BitVec 32 := 0#32
  let c1_i32_666 : BitVec 32 := 1#32
  let arg10 : BitVec 32 := Scf.iv c0_i32_664 c1_i32_666 k0_t13
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off40 (k0_t13 : Fin k0_t13_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_664 : BitVec 32 := 0#32
  let c1_i32_666 : BitVec 32 := 1#32
  let arg10 : BitVec 32 := Scf.iv c0_i32_664 c1_i32_666 k0_t13
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off41 (k0_t13 : Fin k0_t13_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_664 : BitVec 32 := 0#32
  let c1_i32_666 : BitVec 32 := 1#32
  let arg10 : BitVec 32 := Scf.iv c0_i32_664 c1_i32_666 k0_t13
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t14_loop : Scf.Loop 32 :=
  let c0_i32_717 : BitVec 32 := 0#32
  let c512_i32_718 : BitVec 32 := 512#32
  let v484 : BitVec 32 := Scalar.addi c0_i32_717 c512_i32_718
  let c1_i32_719 : BitVec 32 := 1#32
  ⟨c0_i32_717, v484, c1_i32_719⟩
def k0_off42 (k0_t14 : Fin k0_t14_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_717 : BitVec 32 := 0#32
  let c1_i32_719 : BitVec 32 := 1#32
  let arg10 : BitVec 32 := Scf.iv c0_i32_717 c1_i32_719 k0_t14
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off43 (k0_t14 : Fin k0_t14_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_717 : BitVec 32 := 0#32
  let c1_i32_719 : BitVec 32 := 1#32
  let arg10 : BitVec 32 := Scf.iv c0_i32_717 c1_i32_719 k0_t14
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off44 (k0_t14 : Fin k0_t14_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_717 : BitVec 32 := 0#32
  let c1_i32_719 : BitVec 32 := 1#32
  let arg10 : BitVec 32 := Scf.iv c0_i32_717 c1_i32_719 k0_t14
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
@[reducible] def k0_t15_loop : Scf.Loop 32 :=
  let c0_i32_771 : BitVec 32 := 0#32
  let c512_i32_772 : BitVec 32 := 512#32
  let v519 : BitVec 32 := Scalar.addi c0_i32_771 c512_i32_772
  let c1_i32_773 : BitVec 32 := 1#32
  ⟨c0_i32_771, v519, c1_i32_773⟩
def k0_off45 (k0_t15 : Fin k0_t15_loop.trips) : Fin 4 → Nat :=
  let c0_i32_856 : BitVec 32 := 0#32
  let v576 : Index := Scalar.indexCast c0_i32_856
  let c0_i32_857 : BitVec 32 := 0#32
  let v577 : Index := Scalar.indexCast c0_i32_857
  let c0_i32_854 : BitVec 32 := 0#32
  let c0_i32_771 : BitVec 32 := 0#32
  let c1_i32_773 : BitVec 32 := 1#32
  let arg10 : BitVec 32 := Scf.iv c0_i32_771 c1_i32_773 k0_t15
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![0, 0, v578.toNat, v579.toNat]
def k0_off46 (k0_t15 : Fin k0_t15_loop.trips) : Fin 4 → Nat :=
  let c0_i32_858 : BitVec 32 := 0#32
  let v582 : Index := Scalar.indexCast c0_i32_858
  let c1_i32_859 : BitVec 32 := 1#32
  let v583 : Index := Scalar.indexCast c1_i32_859
  let c0_i32_854 : BitVec 32 := 0#32
  let c0_i32_771 : BitVec 32 := 0#32
  let c1_i32_773 : BitVec 32 := 1#32
  let arg10 : BitVec 32 := Scf.iv c0_i32_771 c1_i32_773 k0_t15
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![0, 1, v584.toNat, v585.toNat]
def k0_off47 (k0_t15 : Fin k0_t15_loop.trips) : Fin 4 → Nat :=
  let c0_i32_860 : BitVec 32 := 0#32
  let v588 : Index := Scalar.indexCast c0_i32_860
  let c2_i32_861 : BitVec 32 := 2#32
  let v589 : Index := Scalar.indexCast c2_i32_861
  let c0_i32_854 : BitVec 32 := 0#32
  let c0_i32_771 : BitVec 32 := 0#32
  let c1_i32_773 : BitVec 32 := 1#32
  let arg10 : BitVec 32 := Scf.iv c0_i32_771 c1_i32_773 k0_t15
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![0, 2, v590.toNat, v591.toNat]
@[reducible] def k0_t16_loop : Scf.Loop 32 :=
  let c0_i32_812 : BitVec 32 := 0#32
  let c512_i32_813 : BitVec 32 := 512#32
  let v545 : BitVec 32 := Scalar.addi c0_i32_812 c512_i32_813
  let c1_i32_814 : BitVec 32 := 1#32
  ⟨c0_i32_812, v545, c1_i32_814⟩
def k0_off48 (k0_t16 : Fin k0_t16_loop.trips) : Fin 4 → Nat :=
  let c1_i32_856 : BitVec 32 := 1#32
  let v576 : Index := Scalar.indexCast c1_i32_856
  let c0_i32_857 : BitVec 32 := 0#32
  let v577 : Index := Scalar.indexCast c0_i32_857
  let c0_i32_854 : BitVec 32 := 0#32
  let c0_i32_812 : BitVec 32 := 0#32
  let c1_i32_814 : BitVec 32 := 1#32
  let arg10 : BitVec 32 := Scf.iv c0_i32_812 c1_i32_814 k0_t16
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v578 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v579 : Index := Scalar.indexCast v575
  ![1, 0, v578.toNat, v579.toNat]
def k0_off49 (k0_t16 : Fin k0_t16_loop.trips) : Fin 4 → Nat :=
  let c1_i32_858 : BitVec 32 := 1#32
  let v582 : Index := Scalar.indexCast c1_i32_858
  let c1_i32_859 : BitVec 32 := 1#32
  let v583 : Index := Scalar.indexCast c1_i32_859
  let c0_i32_854 : BitVec 32 := 0#32
  let c0_i32_812 : BitVec 32 := 0#32
  let c1_i32_814 : BitVec 32 := 1#32
  let arg10 : BitVec 32 := Scf.iv c0_i32_812 c1_i32_814 k0_t16
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v584 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v585 : Index := Scalar.indexCast v575
  ![1, 1, v584.toNat, v585.toNat]
def k0_off50 (k0_t16 : Fin k0_t16_loop.trips) : Fin 4 → Nat :=
  let c1_i32_860 : BitVec 32 := 1#32
  let v588 : Index := Scalar.indexCast c1_i32_860
  let c2_i32_861 : BitVec 32 := 2#32
  let v589 : Index := Scalar.indexCast c2_i32_861
  let c0_i32_854 : BitVec 32 := 0#32
  let c0_i32_812 : BitVec 32 := 0#32
  let c1_i32_814 : BitVec 32 := 1#32
  let arg10 : BitVec 32 := Scf.iv c0_i32_812 c1_i32_814 k0_t16
  let c1_i32_853 : BitVec 32 := 1#32
  let v571 : BitVec 32 := Scalar.muli arg10 c1_i32_853
  let v572 : BitVec 32 := Scalar.addi c0_i32_854 v571
  let c6_i32 : BitVec 32 := 6#32
  let v573 : BitVec 32 := Scalar.shrui v572 c6_i32
  let v590 : Index := Scalar.indexCast v573
  let c63_i32 : BitVec 32 := 63#32
  let v574 : BitVec 32 := Scalar.andi v572 c63_i32
  let c16_i32_855 : BitVec 32 := 16#32
  let v575 : BitVec 32 := Scalar.muli v574 c16_i32_855
  let v591 : Index := Scalar.indexCast v575
  ![1, 2, v590.toNat, v591.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x2048x2048 : Shape := ⟨3, ![3, 2048, 2048]⟩
abbrev S3x1 : Shape := ⟨2, ![3, 1]⟩
abbrev S0 : Shape := ⟨1, ![0]⟩
abbrev S_ : Shape := ⟨0, ![]⟩
abbrev S2048x2048 : Shape := ⟨2, ![2048, 2048]⟩
abbrev S3x1x1 : Shape := ⟨3, ![3, 1, 1]⟩
abbrev S1x2048x2048 : Shape := ⟨3, ![1, 2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S3x2048x2048, .f32⟩
  | .hbm, ⟨1, _⟩ => ⟨S3x1, .f32⟩
  | .hbm, ⟨2, _⟩ => ⟨S0, .i32⟩
  | .hbm, ⟨3, _⟩ => ⟨S_, .f32⟩
  | .hbm, ⟨4, _⟩ => ⟨S3x2048x2048, .f32⟩
  | .hbm, ⟨5, _⟩ => ⟨S3x2048x2048, .i1⟩
  | .hbm, ⟨6, _⟩ => ⟨S_, .i1⟩
  | .hbm, ⟨7, _⟩ => ⟨S2048x2048, .i1⟩
  | .hbm, ⟨8, _⟩ => ⟨S3x2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S3x1x1, .f32⟩
  | .hbm, ⟨24, _⟩ => ⟨S1x2048x2048, .f32⟩
  | .hbm, ⟨25, _⟩ => ⟨S3x2048x2048, .f32⟩
  | .hbm, ⟨26, _⟩ => ⟨S3x2048x2048, .f32⟩
  | .hbm, ⟨27, _⟩ => ⟨S1x2048x2048, .f32⟩
  | .hbm, ⟨28, _⟩ => ⟨S_, .f32⟩
  | .hbm, ⟨29, _⟩ => ⟨S1x2048x2048, .f32⟩
  | .hbm, ⟨30, _⟩ => ⟨S1x2048x2048, .f32⟩
  | .hbm, ⟨31, _⟩ => ⟨S3x2048x2048, .f32⟩
  | .hbm, ⟨32, _⟩ => ⟨S3x2048x2048, .f32⟩
  | .hbm, ⟨33, _⟩ => ⟨S3x2048x2048, .f32⟩
  | .hbm, ⟨34, _⟩ => ⟨S3x2048x2048, .f32⟩
  | .hbm, ⟨35, _⟩ => ⟨S1x2048x2048, .i1⟩
  | .hbm, ⟨36, _⟩ => ⟨S3x2048x2048, .i1⟩
  | .hbm, ⟨37, _⟩ => ⟨S3x2048x2048, .f32⟩
  | .hbm, ⟨38, _⟩ => ⟨S3x2048x2048, .f32⟩
  | _, _ => ⟨S3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_cst_3 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_v0 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.Steps.lean ====
/-
  The tile's program as a list of a few kinds of step. A tile owns 64 rows of the picture and treats them as sixteen
  chunks — eight groups of eight rows (`r`), each in two halves of 1024 columns (`b`) — through two input slots and two
  output slots, half `b` always through slot `b`. The printed body writes every chunk's steps out; `body_eq` says that it
  is the same program as eight rounds of the steps named here.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type}

/-! ## The arrays and the tile's buffers -/

/-- The picture, the three colours (padded to sixteen words) and the result, in the device's memory. -/
abbrev imgA : Memref sig .scVector .hbm S3x2048x2048 .f32 := Memref.whole main_arg0_scv
abbrev colA : Memref sig .scVector .hbm S16 .f32 := Memref.whole main_v3_scv
abbrev outA : Memref sig .scVector .hbm S3x2048x2048 .f32 := Memref.whole main_v4_scv
/-- The tile's copy of the colours, its two input slots and its two output slots. -/
abbrev colB : Memref sig .scVector .vmem S16 .f32 := Memref.whole cc0_scratch0
abbrev inB : Memref sig .scVector .vmem S2x3x8x1024 .f32 := Memref.whole cc0_scratch1
abbrev outB : Memref sig .scVector .vmem S2x3x8x1024 .f32 := Memref.whole cc0_scratch2

/-! ## Chunks, slots and lanes -/

/-- Where chunk `(r, b)` of the tile at `L` begins, as the kernel computes it. -/
def chunkOff (L : grid0.Coords) (r : Fin 8) (b : Fin 2) : Fin 3 → Nat :=
  ![0, (Scalar.addi (Scalar.muli (Scalar.addi (Scalar.muli (BitVec.ofNat 32 (L 1).val) 2#32) (BitVec.ofNat 32 (L 0).val)) 64#32)
    (BitVec.ofNat 32 (8 * r.val))).toNat, 1024 * b.val]

theorem chunkOff_eq (L : grid0.Coords) (r : Fin 8) (b : Fin 2) :
    chunkOff L r b = ![0, 128 * (L 1).val + 64 * (L 0).val + 8 * r.val, 1024 * b.val] := by
  match b with
  | 0 => exact k0_off1_eq L r
  | 1 => exact k0_off2_eq L r

theorem chunkOff_inb (L : grid0.Coords) (r : Fin 8) (b : Fin 2) :
    ∀ a, chunkOff L r b a + S3x8x1024.size a ≤ S3x2048x2048.size a := by
  match b with
  | 0 => exact k0_off1_inb L r
  | 1 => exact k0_off2_inb L r

theorem slot_inb (b : Fin 2) : ∀ a, (![b.val, 0, 0, 0] : Fin 4 → Nat) a + S1x3x8x1024.size a ≤ S2x3x8x1024.size a := by
  match b with
  | 0 => exact inb_S2x3x8x1024_S1x3x8x1024_0_0_0_0
  | 1 => exact inb_S2x3x8x1024_S1x3x8x1024_1_0_0_0

theorem cell_inb (b : Fin 2) : ∀ a, (![b.val] : Fin 1 → Nat) a + S1.size a ≤ S2.size a := by
  match b with
  | 0 => exact inb_S2_S1_0
  | 1 => exact inb_S2_S1_1

/-- The row and the column, within a slot, at which trip `t` works, as the kernel computes them. -/
def laneRow (t : Fin 512) : Nat :=
  (Scalar.indexCast (Scalar.shrui (Scalar.addi 0#32 (Scalar.muli (Scf.iv 0#32 1#32 t) 1#32)) 6#32)).toNat
def laneCol (t : Fin 512) : Nat :=
  (Scalar.indexCast (Scalar.muli (Scalar.andi (Scalar.addi 0#32 (Scalar.muli (Scf.iv 0#32 1#32 t) 1#32)) 63#32) 16#32)).toNat

theorem laneRow_laneCol : ∀ t : Fin 512, laneRow t = t.val / 64 ∧ laneCol t = 16 * (t.val % 64) := by decide +kernel

/-- Where trip `t` reads and writes channel `ch` in slot `b`. -/
def laneOff (b : Fin 2) (ch : Fin 3) (t : Fin 512) : Fin 4 → Nat := ![b.val, ch.val, laneRow t, laneCol t]

theorem laneOff_eq (b : Fin 2) (ch : Fin 3) (t : Fin 512) :
    laneOff b ch t = ![b.val, ch.val, t.val / 64, 16 * (t.val % 64)] := by
  rw [laneOff, (laneRow_laneCol t).1, (laneRow_laneCol t).2]

theorem laneOff_inb (b : Fin 2) (ch : Fin 3) (t : Fin 512) :
    ∀ a, laneOff b ch t a + S1x1x1x16.size a ≤ S2x3x8x1024.size a := by
  match b, ch with
  | 0, 0 => exact k0_off3_inb t
  | 0, 1 => exact k0_off4_inb t
  | 0, 2 => exact k0_off5_inb t
  | 1, 0 => exact k0_off6_inb t
  | 1, 1 => exact k0_off7_inb t
  | 1, 2 => exact k0_off8_inb t

/-- Chunk `(r, b)` of an array shaped as the picture. -/
abbrev chunk (M : Memref sig .scVector .hbm S3x2048x2048 .f32) (L : grid0.Coords) (r : Fin 8) (b : Fin 2) :
    Memref sig .scVector .hbm S3x8x1024 .f32 :=
  M.slice (Rect.unit (s := S3x2048x2048) (chunkOff L r b) S3x8x1024.size (chunkOff_inb L r b)) (fun _ => rfl)

/-- Slot `b` of a pair of slots. -/
abbrev slot (M : Memref sig .scVector .vmem S2x3x8x1024 .f32) (b : Fin 2) : Memref sig .scVector .vmem S3x8x1024 .f32 :=
  (M.slice (Rect.unit (s := S2x3x8x1024) ![b.val, 0, 0, 0] S1x3x8x1024.size (slot_inb b)) (fun _ => rfl)).squeeze S3x8x1024
    squeezes_S1x3x8x1024_S3x8x1024

/-- Semaphore `b` of a pair of semaphores. -/
abbrev cell (A : DmaSems sig S2) (b : Fin 2) : DmaSem sig :=
  ((A.slice (Rect.unit (s := S2) ![b.val] S1.size (cell_inb b))).squeeze S_ squeezes_S1_S_).sem

/-- The sixteen lanes that trip `t` treats in channel `ch` of slot `b`. -/
abbrev lanes (b : Fin 2) (ch : Fin 3) (t : Fin 512) : Rect S2x3x8x1024 :=
  Rect.unit (s := S2x3x8x1024) (laneOff b ch t) S1x1x1x16.size (laneOff_inb b ch t)

/-! ## The steps -/

variable [FloatOps F]

/-- The programs of the tile at `L`. -/
abbrev TileProg (F : FTy → Type) (L : grid0.Coords) : Type → Type 1 :=
  Prog (TpuEff nD τ sig (Elt F) Λ₀ (.scVector ((L 0).castLE hcore0) ((L 1).castLE hsub0)))

/-- Begin to copy chunk `(r, b)` of the picture into input slot `b`. -/
abbrev issueIn (L : grid0.Coords) (r : Fin 8) (b : Fin 2) : TileProg F L PUnit :=
  Prog.lift (.enqueueDma (chunk imgA L r b) (.here (slot inB b)) (.dma (cell cc0_scratch3 b)) (View.wordExact_bits rfl)
    ((View.wordExact_bits rfl).reshape _ _) ⟨Or.inl rfl, trivial⟩)

/-- Wait until that copy has arrived. -/
abbrev waitIn (L : grid0.Coords) (r : Fin 8) (b : Fin 2) : TileProg F L PUnit :=
  Prog.lift (.waitDma2 (cell cc0_scratch3 b) (chunk imgA L r b) (slot inB b) (View.wordExact_bits rfl)
    ((View.wordExact_bits rfl).reshape _ _))

/-- Begin to copy output slot `b` into chunk `(r, b)` of the result. -/
abbrev issueOut (L : grid0.Coords) (r : Fin 8) (b : Fin 2) : TileProg F L PUnit :=
  Prog.lift (.enqueueDma (slot outB b) (.here (chunk outA L r b)) (.dma (cell cc0_scratch4 b))
    ((View.wordExact_bits rfl).reshape _ _) (View.wordExact_bits rfl) ⟨Or.inl rfl, trivial⟩)

/-- Wait until that copy has arrived. -/
abbrev waitOut (L : grid0.Coords) (r : Fin 8) (b : Fin 2) : TileProg F L PUnit :=
  Prog.lift (.waitDma2 (cell cc0_scratch4 b) (slot outB b) (chunk outA L r b) ((View.wordExact_bits rfl).reshape _ _)
    (View.wordExact_bits rfl))

/-- The blended lanes of one channel: `c` its colour, `x` its sixteen pixels, `x₀`, `x₁`, `x₂` the pixels of the three
    channels. -/
def blend (c : F .f32) (x x₀ x₁ x₂ : Vec F S1x1x1x16 .f32) : FVec F S1x1x1x16 .f32 :=
  k0_pay9 c (k0_pay1 x) (k0_pay4 x₀ x₁ x₂) (k0_pay5 x₀ x₁ x₂) (k0_pay6 x₀ x₁ x₂) (k0_pay7 x₀ x₁ x₂)

/-- One load from slot `b` of `M`. -/
abbrev loadLanes (L : grid0.Coords) (M : Memref sig .scVector .vmem S2x3x8x1024 .f32) (b : Fin 2) (ch : Fin 3) (t : Fin 512) :
    TileProg F L (Vec F S1x1x1x16 .f32) :=
  Prog.lift (.load M (lanes b ch t).toLoadRect (View.loadsAt_vmem h_S1x1x1x16))

/-- One store to output slot `b` (the kernel reads the lanes it overwrites first, and drops what it read). -/
abbrev storeLanes (L : grid0.Coords) (b : Fin 2) (ch : Fin 3) (t : Fin 512) (w : FVec F S1x1x1x16 .f32) : TileProg F L PUnit :=
  Prog.lift (.load outB (lanes b ch t).toLoadRect (View.loadsAt_vmem h_S1x1x1x16)) >>= fun _ =>
    Prog.lift (.store outB (lanes b ch t) w Finset.univ (View.stores_vmem_bits_univ h_S1x1x1x16 rfl) (.inl rfl))

/-- One trip: sixteen pixels of slot `b`, all three channels. -/
abbrev trip (L : grid0.Coords) (b : Fin 2) (c₀ c₁ c₂ : F .f32) (t : Fin 512) : TileProg F L PUnit := do
  let x₀ ← loadLanes L inB b 0 t
  let x₁ ← loadLanes L inB b 1 t
  let x₂ ← loadLanes L inB b 2 t
  storeLanes L b 0 t (blend c₀ x₀ x₀ x₁ x₂)
  storeLanes L b 1 t (blend c₁ x₁ x₀ x₁ x₂)
  storeLanes L b 2 t (blend c₂ x₂ x₀ x₁ x₂)

/-- The 512 trips over slot `b`. -/
abbrev compute (L : grid0.Coords) (b : Fin 2) (c₀ c₁ c₂ : F .f32) : TileProg F L PUnit :=
  Scf.Loop.for k0_t1_loop k0_t1_ok ⟨⟩ fun t _ => trip L b c₀ c₁ c₂ t

/-- The steps of half `b` of group `r` between the wait for its input and the start of its copy out. -/
def mid (L : grid0.Coords) (r : Fin 8) (b : Fin 2) (c₀ c₁ c₂ : F .f32) : TileProg F L PUnit := do
  compute L b c₀ c₁ c₂
  issueOut L r b

/-- The first group's halves: nothing to write out before them. -/
def firstGroup (L : grid0.Coords) (c₀ c₁ c₂ : F .f32) : TileProg F L PUnit := do
  issueIn L 0 0
  issueIn L 0 1; waitIn L 0 0; mid L 0 0 c₀ c₁ c₂
  issueIn L 1 0; waitIn L 0 1; mid L 0 1 c₀ c₁ c₂

/-- Group `r` between group `q` and group `s`. -/
def group (L : grid0.Coords) (c₀ c₁ c₂ : F .f32) (q r s : Fin 8) : TileProg F L PUnit := do
  issueIn L r 1; waitIn L r 0; waitOut L q 0; mid L r 0 c₀ c₁ c₂
  issueIn L s 0; waitIn L r 1; waitOut L q 1; mid L r 1 c₀ c₁ c₂

/-- The last group's halves: nothing more to fetch, and both copies out to wait for. -/
def lastGroup (L : grid0.Coords) (c₀ c₁ c₂ : F .f32) : TileProg F L PUnit := do
  issueIn L 7 1; waitIn L 7 0; waitOut L 6 0; mid L 7 0 c₀ c₁ c₂
  waitIn L 7 1; waitOut L 6 1; mid L 7 1 c₀ c₁ c₂
  waitOut L 7 0
  waitOut L 7 1

/-- The eight groups, given the three colours. -/
def groups (L : grid0.Coords) (c₀ c₁ c₂ : F .f32) : TileProg F L PUnit := do
  firstGroup L c₀ c₁ c₂
  group L c₀ c₁ c₂ 0 1 2
  group L c₀ c₁ c₂ 1 2 3
  group L c₀ c₁ c₂ 2 3 4
  group L c₀ c₁ c₂ 3 4 5
  group L c₀ c₁ c₂ 4 5 6
  group L c₀ c₁ c₂ 5 6 7
  lastGroup L c₀ c₁ c₂

/-- The whole body: copy the colours in, read the three, run the groups. -/
def body (L : grid0.Coords) : TileProg F L PUnit := do
  Prog.lift (.enqueueDma colA (.here colB) (.dma cc0_scoped0.sem) (Memref.isWhole_whole _).wordExact (Memref.isWhole_whole _).wordExact
    ⟨Or.inl rfl, trivial⟩)
  Prog.lift (.waitDma2 cc0_scoped0.sem colA colB (Memref.isWhole_whole _).wordExact (Memref.isWhole_whole _).wordExact)
  let v : Vec F S16 .f32 ← Prog.lift (.load colB (Rect.unit (s := S16) ![0] S16.size inb_S16_S16_0).toLoadRect (View.loadsAt_vmem h_S16))
  groups L (k0_pay178 v) (k0_pay179 v) (k0_pay180 v)
  pure ⟨⟩

set_option maxRecDepth 65536 in
/-- The printed body is `body`. -/
theorem body_eq (L : grid0.Coords) :
    cc0__sc_body (F := F) L imgA (Memref.isWhole_whole _) colA (Memref.isWhole_whole _) outA (Memref.isWhole_whole _)
      colB (Memref.isWhole_whole _) inB (Memref.isWhole_whole _) outB (Memref.isWhole_whole _) cc0_scratch3 cc0_scratch4 cc0_scoped0
      = body L := by
  simp only [cc0__sc_body_eq_skeleton, cc0__sc_body_skel, body, groups, firstGroup, group, lastGroup, mid,
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part1_skel, k0_part2_skel, k0_part3_skel, k0_part4_skel, k0_part5_skel,
    k0_part6_skel, k0_part7_skel, k0_part8_skel, k0_part9_skel, k0_part10_skel, k0_part11_skel, k0_part12_skel,
    k0_part13_skel, k0_part14_skel, k0_part15_skel, k0_part16_skel, k0_part17_skel, k0_part18_skel, k0_part19_skel,
    k0_part20_skel, k0_part21_skel, k0_part22_skel, k0_part23_skel, k0_part24_skel, k0_part25_skel, k0_part26_skel,
    k0_part27_skel, k0_part28_skel, k0_part29_skel, k0_part30_skel, k0_part31_skel, k0_part32_skel, k0_t1_body, k0_t2_body,
    k0_t3_body, k0_t4_body, k0_t5_body, k0_t6_body, k0_t7_body, k0_t8_body, k0_t9_body, k0_t10_body, k0_t11_body,
    k0_t12_body, k0_t13_body, k0_t14_body, k0_t15_body, k0_t16_body,
    k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton,
    k0_part53_eq_skeleton, k0_part54_eq_skeleton, k0_part55_eq_skeleton, k0_part56_eq_skeleton, k0_part57_eq_skeleton,
    k0_part33_skel, k0_part34_skel, k0_part35_skel, k0_part36_skel, k0_part37_skel, k0_part38_skel, k0_part39_skel,
    k0_part40_skel, k0_part41_skel, k0_part42_skel, k0_part43_skel, k0_part44_skel, k0_part45_skel, k0_part46_skel,
    k0_part47_skel, k0_part48_skel, k0_part49_skel, k0_part50_skel, k0_part51_skel, k0_part52_skel, k0_part53_skel,
    k0_part54_skel, k0_part55_skel, k0_part56_skel, k0_part57_skel, bind_assoc, pure_bind, bind_pure]
  rfl

end Cert.Proof

end
-- ==== Proof.Pixels.lean ====
/-
  What one trip of the loop does to the slots' contents, and the whole loop: `shade`, the kernel's arithmetic at one
  pixel; `trip_wp`, the sixteen pixels of one trip; `compute_wp`, the 512 trips over a slot.
-/
module

public import proofs.«01_k».proof.Proof.Steps

@[expose] public section

noncomputable section

namespace Cert.Proof

open Cert.KernelIdeal Cert.KernelIdeal.Gen
open Idealize.ShloMosaic Idealize.SL.Sem Idealize.ShloMosaic.ValueIdx

variable {F : FTy → Type} [FloatOps F]

/-! ## The arithmetic at one pixel -/

/-- All three channels below a quarter. -/
def dark (r g b : F .f32) : BitVec 1 :=
  IntOp.andi (IntOp.andi (FloatOps.cmpf .olt r (Scalar.ofBits .f32 0x3E800000#32)) (FloatOps.cmpf .olt g (Scalar.ofBits .f32 0x3E800000#32)))
    (FloatOps.cmpf .olt b (Scalar.ofBits .f32 0x3E800000#32))

/-- The squared length of the pixel, at least the guard. -/
def lengthSq (r g b : F .f32) : F .f32 :=
  FloatOps.maximumf (FloatOps.addf (FloatOps.addf (FloatOps.mulf r r) (FloatOps.mulf g g)) (FloatOps.mulf b b)) (Scalar.ofBits .f32 0x0DA24260#32)

/-- The length, from the reciprocal root `y` of its square `q` and one Newton step. -/
def lengthOf (q y : F .f32) : F .f32 :=
  FloatOps.mulf q (FloatOps.mulf y (FloatOps.subf (Scalar.ofBits .f32 0x3FC00000#32)
    (FloatOps.mulf (FloatOps.mulf (FloatOps.mulf (Scalar.ofBits .f32 0x3F000000#32) q) y) y)))

/-- How much of the pixel stays. -/
def opacity (r g b : F .f32) : F .f32 :=
  Scalar.select (dark r g b)
    (FloatOps.mulf (FloatOps.minimumf (lengthOf (lengthSq r g b) (FloatOps.rsqrt (lengthSq r g b))) (Scalar.ofBits .f32 0x3E800000#32))
      (Scalar.ofBits .f32 0x40800000#32))
    (Scalar.ofBits .f32 0x3F800000#32)

/-- One channel of a pixel blended with the colour `c`: `x` the channel, `r`, `g`, `b` all three. -/
def shade (c x r g b : F .f32) : F .f32 :=
  FloatOps.addf (FloatOps.mulf (opacity r g b) (FloatOps.subf x c)) c

/-- The sixteen lanes are blended each on its own. -/
theorem blend_apply (c : F .f32) (x x₀ x₁ x₂ : Vec F S1x1x1x16 .f32) (y : S1x1x1x16.Idx) :
    blend c x x₀ x₁ x₂ y = shade c (x y) (x₀ y) (x₁ y) (x₂ y) := by
  have key : ∀ v : Vec F S1x1x1x16 .f32, ∀ h, shapeCast S16 v shapeCasts_S1x1x1x16_S16 (Shape.reshapeEquiv h y) = v y := by
    intro v h
    show v (Shape.reshapeEquiv _ (Shape.reshapeEquiv h y)) = v y
    rw [Shape.reshapeEquiv_reshapeEquiv, Shape.reshapeEquiv_self]
  have h : S1x1x1x16.numel = S16.numel := by decide
  rw [← key x h, ← key x₀ h, ← key x₁ h, ← key x₂ h]
  rfl

/-! ## A slot's contents -/

/-- The contents of a pair of slots. -/
abbrev Slots (F : FTy → Type) : Type := S2x3x8x1024.Idx → F .f32

/-- The same pixel in channel `ch`. -/
def chan (i : S2x3x8x1024.Idx) (ch : Fin 3) : S2x3x8x1024.Idx := ix4 (i 0 : Fin 2) ch (i 2 : Fin 8) (i 3 : Fin 1024)

/-- What the loop leaves at `i` when the input slots hold `f`. -/
def shaded (c : Fin 3 → F .f32) (f : Slots F) (i : S2x3x8x1024.Idx) : F .f32 :=
  shade (c (i 1)) (f i) (f (chan i 0)) (f (chan i 1)) (f (chan i 2))

/-- The trip that treats `i`. -/
def tripOf (i : S2x3x8x1024.Idx) : ℕ := 64 * (i 2).val + (i 3).val / 16

/-- The lane of trip `t` in channel `ch` of slot `b`, and where it lies. -/
theorem lanes_emb (b : Fin 2) (ch : Fin 3) (t : Fin 512) (y : S1x1x1x16.Idx) :
    (lanes b ch t).emb y = (ix4 b ch (⟨t.val / 64, by omega⟩ : Fin 8)
      (⟨16 * (t.val % 64) + (y 3).val, by have : (y 3).val < 16 := (y 3).isLt; omega⟩ : Fin 1024) : S2x3x8x1024.Idx) := by
  funext a
  apply Fin.ext
  rw [Rect.emb_apply]
  show laneOff b ch t a + 1 * (y a).val = _
  rw [laneOff_eq]
  match a with
  | 0 => have : (y 0).val < 1 := (y 0).isLt; show b.val + 1 * (y 0).val = b.val; omega
  | 1 => have : (y 1).val < 1 := (y 1).isLt; show ch.val + 1 * (y 1).val = ch.val; omega
  | 2 => have : (y 2).val < 1 := (y 2).isLt; show t.val / 64 + 1 * (y 2).val = t.val / 64; omega
  | 3 => show 16 * (t.val % 64) + 1 * (y 3).val = 16 * (t.val % 64) + (y 3).val; omega

theorem mem_lanes (b : Fin 2) (ch : Fin 3) (t : Fin 512) (i : S2x3x8x1024.Idx) :
    i ∈ (lanes b ch t).set ↔ (i 0).val = b.val ∧ (i 1).val = ch.val ∧ tripOf i = t.val := by
  have h2 : (i 2).val < 8 := (i 2).isLt
  have h3 : (i 3).val < 1024 := (i 3).isLt
  rw [Rect.mem_set_unit, laneOff_eq]
  constructor
  · intro h
    have e0 : b.val ≤ (i 0).val ∧ (i 0).val < b.val + 1 := h 0
    have e1 : ch.val ≤ (i 1).val ∧ (i 1).val < ch.val + 1 := h 1
    have e2 : t.val / 64 ≤ (i 2).val ∧ (i 2).val < t.val / 64 + 1 := h 2
    have e3 : 16 * (t.val % 64) ≤ (i 3).val ∧ (i 3).val < 16 * (t.val % 64) + 16 := h 3
    exact ⟨by omega, by omega, by unfold tripOf; omega⟩
  · rintro ⟨e0, e1, e2⟩
    unfold tripOf at e2
    intro a
    match a with
    | 0 => show b.val ≤ (i 0).val ∧ (i 0).val < b.val + 1; omega
    | 1 => show ch.val ≤ (i 1).val ∧ (i 1).val < ch.val + 1; omega
    | 2 => show t.val / 64 ≤ (i 2).val ∧ (i 2).val < t.val / 64 + 1; omega
    | 3 => show 16 * (t.val % 64) ≤ (i 3).val ∧ (i 3).val < 16 * (t.val % 64) + 16; omega

/-- The contents after one trip: the trip's pixels shaded, the rest as it was. -/
def tripped (c : Fin 3 → F .f32) (f : Slots F) (b : Fin 2) (t : Fin 512) (g : Slots F) : Slots F := fun i =>
  if (i 0).val = b.val ∧ tripOf i = t.val then shaded c f i else g i

theorem write_outB_emb (r : Rect S2x3x8x1024) (g : Slots F) (w : r.shape.Idx → Elt F .f32) (y : r.shape.Idx) :
    (outB.access r).write (Elt F) g w Finset.univ (r.emb y) = w y :=
  View.write_emb_of_mem (Val := Elt F) (v := outB.access r) g w (Finset.mem_univ y)

theorem write_outB_of_not_mem (r : Rect S2x3x8x1024) (g : Slots F) (w : r.shape.Idx → Elt F .f32) {i : S2x3x8x1024.Idx}
    (hi : i ∉ r.set) : (outB.access r).write (Elt F) g w Finset.univ i = g i :=
  View.write_of_not_mem (Val := Elt F) (v := outB.access r) g w _
    (by rw [View.setOn_univ]; exact fun h => hi ((View.set_slice_whole cc0_scratch2 r) ▸ h))

/-- One store of shaded lanes, at one place. -/
theorem write_lanes_apply (b : Fin 2) (ch : Fin 3) (t : Fin 512) (g : Slots F) (w : FVec F S1x1x1x16 .f32) (G : Slots F)
    (hw : ∀ y, w y = G ((lanes b ch t).emb y)) (i : S2x3x8x1024.Idx) :
    (outB.access (lanes b ch t)).write (Elt F) g w Finset.univ i = if (i 0).val = b.val ∧ (i 1).val = ch.val ∧ tripOf i = t.val then G i else g i := by
  by_cases hi : i ∈ (lanes b ch t).set
  · rw [if_pos ((mem_lanes b ch t i).1 hi)]
    obtain ⟨y, hy⟩ := (lanes b ch t).exists_idx_of_mem hi
    obtain rfl : (lanes b ch t).emb y = i := hy
    rw [write_outB_emb (lanes b ch t) g w y]
    exact hw y
  · rw [if_neg (fun h => hi ((mem_lanes b ch t i).2 h))]
    exact write_outB_of_not_mem _ g w hi

/-- The lanes of trip `t` in channel `ch`, of contents `f`. -/
abbrev lanesOf (f : Slots F) (b : Fin 2) (ch : Fin 3) (t : Fin 512) : Vec F S1x1x1x16 .f32 := fun y => f ((lanes b ch t).emb y)

theorem chan_emb (b : Fin 2) (ch ch' : Fin 3) (t : Fin 512) (y : S1x1x1x16.Idx) :
    chan ((lanes b ch t).emb y) ch' = (lanes b ch' t).emb y := by
  rw [lanes_emb, lanes_emb]; rfl

theorem blend_lanes (c : Fin 3 → F .f32) (f : Slots F) (b : Fin 2) (ch : Fin 3) (t : Fin 512) (y : S1x1x1x16.Idx) :
    blend (c ch) (lanesOf f b ch t) (lanesOf f b 0 t) (lanesOf f b 1 t) (lanesOf f b 2 t) y = shaded c f ((lanes b ch t).emb y) := by
  rw [blend_apply, shaded, chan_emb, chan_emb, chan_emb]
  congr 2
  rw [lanes_emb]

/-- The three stores of a trip leave `tripped`. -/
theorem three_stores (c : Fin 3 → F .f32) (f g : Slots F) (b : Fin 2) (t : Fin 512) :
    (outB.access (lanes b 2 t)).write (Elt F)
      ((outB.access (lanes b 1 t)).write (Elt F)
        ((outB.access (lanes b 0 t)).write (Elt F) g
          (blend (c 0) (lanesOf f b 0 t) (lanesOf f b 0 t) (lanesOf f b 1 t) (lanesOf f b 2 t)) Finset.univ)
        (blend (c 1) (lanesOf f b 1 t) (lanesOf f b 0 t) (lanesOf f b 1 t) (lanesOf f b 2 t)) Finset.univ)
      (blend (c 2) (lanesOf f b 2 t) (lanesOf f b 0 t) (lanesOf f b 1 t) (lanesOf f b 2 t)) Finset.univ
      = tripped c f b t g := by
  funext i
  rw [write_lanes_apply b 2 t _ _ (shaded c f) (blend_lanes c f b 2 t), write_lanes_apply b 1 t _ _ (shaded c f) (blend_lanes c f b 1 t),
    write_lanes_apply b 0 t _ _ (shaded c f) (blend_lanes c f b 0 t), tripped]
  have h1 : (i 1).val = 0 ∨ (i 1).val = 1 ∨ (i 1).val = 2 := by have : (i 1).val < 3 := (i 1).isLt; omega
  by_cases h : (i 0).val = b.val ∧ tripOf i = t.val
  · rw [if_pos h]
    obtain ⟨h0, ht⟩ := h
    rcases h1 with e | e | e <;> simp [h0, ht, e]
  · rw [if_neg h, if_neg (fun k => h ⟨k.1, k.2.2⟩), if_neg (fun k => h ⟨k.1, k.2.2⟩), if_neg (fun k => h ⟨k.1, k.2.2⟩)]

end Cert.Proof

end
-- ==== Proof.Ground.lean ====
/-
  The ground the run's proof stands on: the program as the launch theorem sees it, the resource algebra, the arrays as
  locations of the device, and the tile's threads.
-/
module

public import proofs.«01_k».proof.Proof.Pixels

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The arrays -/

/-- The picture, the colours padded to sixteen words, and the result, as locations of device `d`. -/
abbrev imgLoc (d : Dev nD) : Loc nD τ sig := (SparseCore.T d).loc main_arg0
abbrev colLoc (d : Dev nD) : Loc nD τ sig := (SparseCore.T d).loc main_v3
abbrev outLoc (d : Dev nD) : Loc nD τ sig := (SparseCore.T d).loc main_v4

/-- The vector subcore of the tile at `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The slots' sets -/

/-- The elements of slot `b`. -/
def slotSet (b : Fin 2) : Finset S2x3x8x1024.Idx :=
  (Rect.unit (s := S2x3x8x1024) ![b.val, 0, 0, 0] S1x3x8x1024.size (slot_inb b)).set

theorem mem_slotSet (b : Fin 2) (i : S2x3x8x1024.Idx) : i ∈ slotSet b ↔ (i 0).val = b.val := by
  have h1 : (i 1).val < 3 := (i 1).isLt
  have h2 : (i 2).val < 8 := (i 2).isLt
  have h3 : (i 3).val < 1024 := (i 3).isLt
  rw [slotSet, Rect.mem_set_unit]
  constructor
  · intro h
    have e0 : b.val ≤ (i 0).val ∧ (i 0).val < b.val + 1 := h 0
    omega
  · intro e a
    match a with
    | 0 => show b.val ≤ (i 0).val ∧ (i 0).val < b.val + 1; omega
    | 1 => show 0 ≤ (i 1).val ∧ (i 1).val < 0 + 3; omega
    | 2 => show 0 ≤ (i 2).val ∧ (i 2).val < 0 + 8; omega
    | 3 => show 0 ≤ (i 3).val ∧ (i 3).val < 0 + 1024; omega

theorem set_slot_inB (b : Fin 2) : (slot inB b).view.set = slotSet b := by
  rw [Memref.set_view_squeeze]; exact View.set_slice_whole cc0_scratch1 _

theorem set_slot_outB (b : Fin 2) : (slot outB b).view.set = slotSet b := by
  rw [Memref.set_view_squeeze]; exact View.set_slice_whole cc0_scratch2 _

theorem lanes_subset (b : Fin 2) (ch : Fin 3) (t : Fin 512) : (lanes b ch t).set ⊆ slotSet b := fun i hi =>
  (mem_slotSet b i).2 ((mem_lanes b ch t i).1 hi).1

theorem setOn_lanes (b : Fin 2) (ch : Fin 3) (t : Fin 512) :
    (show Finset S2x3x8x1024.Idx from (lanes b ch t).toLoadRect.set.map (Function.Embedding.refl _)) ⊆ slotSet b := by
  rw [Finset.map_refl]; exact lanes_subset b ch t

variable [FloatOps F]

/-- Slot `b` of the tile's input, and of its output, holding `f`. -/
abbrev inPts (d : Dev nD) (L : grid0.Coords) (b : Fin 2) (f : Slots F) : sProp 𝕄 := inB.view.loc (thr d L) ↦[slotSet b]{fullShare} f
abbrev outPts (d : Dev nD) (L : grid0.Coords) (b : Fin 2) (f : Slots F) : sProp 𝕄 := outB.view.loc (thr d L) ↦[slotSet b]{fullShare} f

/-- The tile's programs' weakest preconditions. -/
abbrev tileWp (d : Dev nD) (L : grid0.Coords) {α : Type} (p : TileProg F L α) (Q : α → sProp 𝕄) : sProp 𝕄 :=
  wp frame (wpE (defs₀ (F := F)) 𝒱₀ (thr d L) none) Set.univ p Q

theorem load_in (d : Dev nD) (L : grid0.Coords) (b : Fin 2) (ch : Fin 3) (t : Fin 512) (f : Slots F) {α : Type}
    (k : Vec F S1x1x1x16 .f32 → TileProg F L α) (Q : α → sProp 𝕄) :
    inPts d L b f ⊢ iprop((inPts d L b f -∗ tileWp d L (k (lanesOf f b ch t)) Q) -∗ tileWp d L (loadLanes L inB b ch t >>= k) Q) :=
  wp_load 𝒱₀ (thr d L) none Set.univ (m := inB) (r := (lanes b ch t).toLoadRect) (hl := View.loadsAt_vmem h_S1x1x1x16) (k := k)
    (S := slotSet b) (q := fullShare) (f := f) (setOn_lanes b ch t)

theorem load_out (d : Dev nD) (L : grid0.Coords) (b : Fin 2) (ch : Fin 3) (t : Fin 512) (g : Slots F) {α : Type}
    (k : Vec F S1x1x1x16 .f32 → TileProg F L α) (Q : α → sProp 𝕄) :
    outPts d L b g ⊢ iprop((outPts d L b g -∗ tileWp d L (k (lanesOf g b ch t)) Q) -∗ tileWp d L (loadLanes L outB b ch t >>= k) Q) :=
  wp_load 𝒱₀ (thr d L) none Set.univ (m := outB) (r := (lanes b ch t).toLoadRect) (hl := View.loadsAt_vmem h_S1x1x1x16) (k := k)
    (S := slotSet b) (q := fullShare) (f := g) (setOn_lanes b ch t)

/-- The store alone. -/
abbrev storeOnly (L : grid0.Coords) (b : Fin 2) (ch : Fin 3) (t : Fin 512) (w : FVec F S1x1x1x16 .f32) : TileProg F L PUnit :=
  Prog.lift (.store outB (lanes b ch t) w Finset.univ (View.stores_vmem_bits_univ h_S1x1x1x16 rfl) (.inl rfl))

theorem setOn_access (b : Fin 2) (ch : Fin 3) (t : Fin 512) : (outB.access (lanes b ch t)).setOn Finset.univ ⊆ slotSet b := by
  rw [View.setOn_univ]; exact (View.set_slice_whole cc0_scratch2 (lanes b ch t)) ▸ lanes_subset b ch t

theorem store_only (d : Dev nD) (L : grid0.Coords) (b : Fin 2) (ch : Fin 3) (t : Fin 512) (g : Slots F) (w : FVec F S1x1x1x16 .f32)
    {α : Type} (k : PUnit → TileProg F L α) (Q : α → sProp 𝕄) :
    outPts d L b g ⊢ iprop((outPts d L b ((outB.access (lanes b ch t)).write (Elt F) g w Finset.univ) -∗ tileWp d L (k ⟨⟩) Q)
      -∗ tileWp d L (.op (.store outB (lanes b ch t) w Finset.univ (View.stores_vmem_bits_univ h_S1x1x1x16 rfl) (.inl rfl)) k) Q) :=
  wp_store (defs := defs₀ (F := F)) 𝒱₀ (thr d L) none Set.univ (Q := Q) (m := outB) (r := lanes b ch t) (w := w) (Mk := Finset.univ)
    (hx := View.stores_vmem_bits_univ h_S1x1x1x16 rfl) (hm := .inl rfl) (k := k) (S := slotSet b) (f := g) (setOn_access b ch t)

theorem store_out (d : Dev nD) (L : grid0.Coords) (b : Fin 2) (ch : Fin 3) (t : Fin 512) (g : Slots F) (w : FVec F S1x1x1x16 .f32)
    {α : Type} (k : PUnit → TileProg F L α) (Q : α → sProp 𝕄) :
    outPts d L b g ⊢ iprop((outPts d L b ((outB.access (lanes b ch t)).write (Elt F) g w Finset.univ) -∗ tileWp d L (k ⟨⟩) Q)
      -∗ tileWp d L (storeLanes L b ch t w >>= k) Q) := by
  rw [show (storeLanes L b ch t w >>= k) = (loadLanes L outB b ch t >>= fun _ => storeOnly L b ch t w >>= k) from rfl]
  iintro H HK
  iapply (load_out d L b ch t g _ _) $$ H
  iintro H
  iapply (store_only d L b ch t g w _ _) $$ H
  iexact HK

/-- One trip. -/
theorem trip_wp (d : Dev nD) (L : grid0.Coords) (b : Fin 2) (c : Fin 3 → F .f32) (t : Fin 512) (f g : Slots F) :
    iprop(inPts d L b f ∗ outPts d L b g)
      ⊢ tileWp d L (trip L b (c 0) (c 1) (c 2) t) fun _ => iprop(inPts d L b f ∗ outPts d L b (tripped c f b t g)) := by
  iintro ⟨Hi, Ho⟩
  iapply (load_in d L b 0 t f _ _) $$ Hi
  iintro Hi
  iapply (load_in d L b 1 t f _ _) $$ Hi
  iintro Hi
  iapply (load_in d L b 2 t f _ _) $$ Hi
  iintro Hi
  iapply (store_out d L b 0 t g _ _ _) $$ Ho
  iintro Ho
  iapply (store_out d L b 1 t _ _ _ _) $$ Ho
  iintro Ho
  rw [← bind_pure (storeLanes L b 2 t _)]
  iapply (store_out d L b 2 t _ _ _ _) $$ Ho
  iintro Ho
  rw [three_stores]
  rw [tileWp, wp_pure]
  imodintro
  isplitl [Hi] <;> iassumption

/-- The loop over slot `b`: afterwards the slot holds, at each of its places, the pixel shaded. -/
theorem compute_wp (d : Dev nD) (L : grid0.Coords) (b : Fin 2) (c : Fin 3 → F .f32) (f g : Slots F) {α : Type}
    (k : PUnit → TileProg F L α) (Q : α → sProp 𝕄) :
    iprop(inPts d L b f ∗ outPts d L b g)
      ⊢ iprop((iprop(inPts d L b f ∗ outPts d L b (shaded c f)) -∗ tileWp d L (k ⟨⟩) Q)
        -∗ tileWp d L (compute L b (c 0) (c 1) (c 2) >>= k) Q) := by
  iintro ⟨Hi, Ho⟩ HK
  iapply (Scf.wp_for_bind frame (wpE (defs₀ (F := F)) 𝒱₀ (thr d L) none) Set.univ _ _ _ k0_t1_ok _ _
    (fun (t : ℕ) (_ : Unit) => iprop(inPts d L b f ∗ ∃ g', ⌜∀ i, (i 0).val = b.val → tripOf i < t → g' i = shaded c f i⌝ ∗ outPts d L b g'))
    (fun t _ => by
      iintro ⟨Hi, %g', %hg, Ho⟩
      iapply (wp_mono frame _ _ (Q := fun _ => iprop(inPts d L b f ∗ outPts d L b (tripped c f b t g'))) (fun _ => by
        iintro ⟨Hi, Ho⟩
        isplitl [Hi]; · iexact Hi
        iexists tripped c f b t g'
        isplitr
        · ipureintro
          intro i h0 ht
          unfold tripped
          by_cases h : (i 0).val = b.val ∧ tripOf i = t.val
          · rw [if_pos h]
          · rw [if_neg h]; exact hg i h0 (by omega)
        · iexact Ho))
      iapply (trip_wp d L b c t f g')
      isplitl [Hi] <;> iassumption)) $$ [Hi Ho]
  · isplitl [Hi]; · iexact Hi
    iexists g
    isplitr
    · ipureintro; intro i _ h; exact absurd h (Nat.not_lt_zero _)
    · iexact Ho
  iintro %_ ⟨Hi, %g', %hg, Ho⟩
  iapply HK
  isplitl [Hi]; · iexact Hi
  iapply (Entails.of_eq (pointsTo_congr (fun i hi => hg i ((mem_slotSet b i).1 hi) (by
    have h2 : (i 2).val < 8 := (i 2).isLt
    have h3 : (i 3).val < 1024 := (i 3).isLt
    show tripOf i < 512
    unfold tripOf; omega))))
  iexact Ho

end Cert.Proof

end
-- ==== Proof.Chunks.lean ====
/-
  The copies of one tile: which places of the picture a chunk holds, what a copy in leaves in a slot, what a copy out
  leaves in a chunk, and the rules for starting each copy and for waiting for it.
-/
module

public import proofs.«01_k».proof.Proof.Ground

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Places -/

/-- The contents of an array shaped as the picture. -/
abbrev Pic (F : FTy → Type) : Type := S3x2048x2048.Idx → F .f32

/-- The picture's place that slot place `i` stands for while chunk `(r, b)` is in the slot. -/
def place (L : grid0.Coords) (r : Fin 8) (b : Fin 2) (i : S2x3x8x1024.Idx) : S3x2048x2048.Idx :=
  ix3 (i 1 : Fin 3)
    (⟨128 * (L 1).val + 64 * (L 0).val + 8 * r.val + (i 2).val, by
      have h0 : (L 0).val < 2 := (L 0).isLt
      have h1 : (L 1).val < 16 := (L 1).isLt
      have h2 : (i 2).val < 8 := (i 2).isLt
      omega⟩ : Fin 2048)
    (⟨1024 * b.val + (i 3).val, by have h3 : (i 3).val < 1024 := (i 3).isLt; omega⟩ : Fin 2048)

/-- The elements of chunk `(r, b)`. -/
def chunkSet (L : grid0.Coords) (r : Fin 8) (b : Fin 2) : Finset S3x2048x2048.Idx :=
  (Rect.unit (s := S3x2048x2048) (chunkOff L r b) S3x8x1024.size (chunkOff_inb L r b)).set

theorem mem_chunkSet (L : grid0.Coords) (r : Fin 8) (b : Fin 2) (p : S3x2048x2048.Idx) :
    p ∈ chunkSet L r b ↔ (p 1).val / 8 = 16 * (L 1).val + 8 * (L 0).val + r.val ∧ (p 2).val / 1024 = b.val := by
  have h0 : (p 0).val < 3 := (p 0).isLt
  rw [chunkSet, Rect.mem_set_unit, chunkOff_eq]
  constructor
  · intro h
    have e1 : 128 * (L 1).val + 64 * (L 0).val + 8 * r.val ≤ (p 1).val
        ∧ (p 1).val < 128 * (L 1).val + 64 * (L 0).val + 8 * r.val + 8 := h 1
    have e2 : 1024 * b.val ≤ (p 2).val ∧ (p 2).val < 1024 * b.val + 1024 := h 2
    constructor <;> omega
  · rintro ⟨e1, e2⟩ a
    match a with
    | 0 => show 0 ≤ (p 0).val ∧ (p 0).val < 0 + 3; omega
    | 1 =>
      show 128 * (L 1).val + 64 * (L 0).val + 8 * r.val ≤ (p 1).val
        ∧ (p 1).val < 128 * (L 1).val + 64 * (L 0).val + 8 * r.val + 8
      omega
    | 2 => show 1024 * b.val ≤ (p 2).val ∧ (p 2).val < 1024 * b.val + 1024; omega

theorem set_chunk_imgA (L : grid0.Coords) (r : Fin 8) (b : Fin 2) : (chunk imgA L r b).view.set = chunkSet L r b :=
  View.set_slice_whole main_arg0_scv _
theorem set_chunk_outA (L : grid0.Coords) (r : Fin 8) (b : Fin 2) : (chunk outA L r b).view.set = chunkSet L r b :=
  View.set_slice_whole main_v4_scv _

/-- Chunk place `y` in slot `b`. -/
def inSlot (b : Fin 2) (y : S3x8x1024.Idx) : S2x3x8x1024.Idx := ix4 b (y 0 : Fin 3) (y 1 : Fin 8) (y 2 : Fin 1024)

theorem slot_rect_emb (b : Fin 2) (h : S3x8x1024.numel = S1x3x8x1024.numel) (y : S3x8x1024.Idx) :
    (Rect.unit (s := S2x3x8x1024) ![b.val, 0, 0, 0] S1x3x8x1024.size (slot_inb b)).emb (Shape.reshapeEquiv h y) = inSlot b y := by
  have e : Shape.reshapeEquiv h y = (ix4 (⟨0, by omega⟩ : Fin 1) (y 0 : Fin 3) (y 1 : Fin 8) (y 2 : Fin 1024) : S1x3x8x1024.Idx) := by
    rw [ValueIdx.eq_ix3 y]; exact ValueIdx.reshapeEquiv_ix3_1abc h _ _ _
  rw [e]
  funext a
  apply Fin.ext
  rw [Rect.emb_apply]
  match a with
  | 0 => show b.val + 1 * 0 = b.val; omega
  | 1 => show 0 + 1 * (y 0).val = (y 0).val; omega
  | 2 => show 0 + 1 * (y 1).val = (y 1).val; omega
  | 3 => show 0 + 1 * (y 2).val = (y 2).val; omega

theorem chunk_rect_emb (L : grid0.Coords) (r : Fin 8) (b : Fin 2) (y : S3x8x1024.Idx) :
    (Rect.unit (s := S3x2048x2048) (chunkOff L r b) S3x8x1024.size (chunkOff_inb L r b)).emb y = place L r b (inSlot b y) := by
  funext a
  apply Fin.ext
  rw [Rect.emb_apply]
  show chunkOff L r b a + 1 * (y a).val = _
  rw [chunkOff_eq]
  match a with
  | 0 => show 0 + 1 * (y 0).val = (y 0).val; omega
  | 1 =>
    show 128 * (L 1).val + 64 * (L 0).val + 8 * r.val + 1 * (y 1).val = 128 * (L 1).val + 64 * (L 0).val + 8 * r.val + (y 1).val
    omega
  | 2 => show 1024 * b.val + 1 * (y 2).val = 1024 * b.val + (y 2).val; omega

/-! ## What the copies leave -/

/-- The slots' contents while chunk `(r, b)` of `X` is in slot `b`. -/
def landed (X : Pic F) (L : grid0.Coords) (r : Fin 8) (b : Fin 2) : Slots F := fun i => X (place L r b i)

theorem write_in (X : Pic F) (L : grid0.Coords) (r : Fin 8) (b : Fin 2) (f : Slots F) (i : S2x3x8x1024.Idx) (hi : i ∈ slotSet b) :
    (slot inB b).view.write (Elt F) f (ReadAs.same.apply ((chunk imgA L r b).view.read (Elt F) X)) Finset.univ i = landed X L r b i := by
  rw [← set_slot_inB] at hi
  obtain ⟨y, _, hy⟩ := Finset.mem_map.1 hi
  have e : (slot inB b).view.emb y = inSlot b y := slot_rect_emb b _ y
  have e' : (chunk imgA L r b).view.emb y = place L r b (inSlot b y) := chunk_rect_emb L r b y
  rw [← hy, View.write_emb_of_mem (Val := Elt F) (v := (slot inB b).view) f _ (Finset.mem_univ y), ReadAs.apply_same, View.read_apply]
  show X ((chunk imgA L r b).view.emb y) = X (place L r b ((slot inB b).view.emb y))
  rw [e, e']

theorem write_out (Y : Pic F) (L : grid0.Coords) (r : Fin 8) (b : Fin 2) (g : Slots F) (hg : ∀ i, (i 0).val = b.val → g i = Y (place L r b i))
    (Z : Pic F) (p : S3x2048x2048.Idx) (hp : p ∈ chunkSet L r b) :
    (chunk outA L r b).view.write (Elt F) Z (ReadAs.same.apply ((slot outB b).view.read (Elt F) g)) Finset.univ p = Y p := by
  rw [← set_chunk_outA] at hp
  obtain ⟨y, _, hy⟩ := Finset.mem_map.1 hp
  have e : (slot outB b).view.emb y = inSlot b y := slot_rect_emb b _ y
  have e' : (chunk outA L r b).view.emb y = place L r b (inSlot b y) := chunk_rect_emb L r b y
  rw [← hy, View.write_emb_of_mem (Val := Elt F) (v := (chunk outA L r b).view) Z _ (Finset.mem_univ y), ReadAs.apply_same, View.read_apply]
  show g ((slot outB b).view.emb y) = Y ((chunk outA L r b).view.emb y)
  rw [e, e']
  exact hg _ rfl

end Cert.Proof

end
-- ==== Proof.Copies.lean ====
/-
  The rules for a tile's copies: starting one lends its source and its destination, and waiting for it brings both back,
  the destination holding what was copied.
-/
module

public import proofs.«01_k».proof.Proof.Chunks

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Chunk `(r, b)` of the picture, and of the result, as the tile at `L` holds it. -/
abbrev imgPts (d : Dev nD) (L : grid0.Coords) (r : Fin 8) (b : Fin 2) (X : Pic F) : sProp 𝕄 :=
  imgA.view.loc (thr d L) ↦[chunkSet L r b]{fullShare} X
abbrev resPts (d : Dev nD) (L : grid0.Coords) (r : Fin 8) (b : Fin 2) (Y : Pic F) : sProp 𝕄 :=
  outA.view.loc (thr d L) ↦[chunkSet L r b]{fullShare} Y

/-- The semaphores of slot `b`'s copies, as cells of the tile. -/
abbrev inSem (d : Dev nD) (L : grid0.Coords) (b : Fin 2) : GSem nD τ sig := (thr d L, .dma (cell cc0_scratch3 b))
abbrev outSem (d : Dev nD) (L : grid0.Coords) (b : Fin 2) : GSem nD τ sig := (thr d L, .dma (cell cc0_scratch4 b))

/-- Chunk `(r, b)` of `X` is on its way into slot `b`. -/
def InFlight (X : Pic F) (d : Dev nD) (L : grid0.Coords) (r : Fin 8) (b : Fin 2) : sProp 𝕄 :=
  Transfers.Flight EC (thr d L) (.dma (cell cc0_scratch3 b)) none (slot inB b).view.dmaCredit
    iprop(inPts d L b (landed X L r b) ∗ imgPts d L r b X)

/-- Slot `b` is on its way out into chunk `(r, b)`, which will hold `Y`. -/
def OutFlight (Y : Pic F) (d : Dev nD) (L : grid0.Coords) (r : Fin 8) (b : Fin 2) : sProp 𝕄 :=
  Transfers.Flight EC (thr d L) (.dma (cell cc0_scratch4 b)) none (chunk outA L r b).view.dmaCredit
    iprop(resPts d L r b Y ∗ ∃ g, outPts d L b g)

/-- What the copy in delivers, said in the slots' and the chunk's own terms. -/
theorem in_landed (X : Pic F) (d : Dev nD) (L : grid0.Coords) (r : Fin 8) (b : Fin 2) (f : Slots F) :
    (iprop(((slot inB b).view.loc (thr d L) ↦[slotSet b]{fullShare}
        ((slot inB b).view.write (Elt F) f (ReadAs.same.apply ((chunk imgA L r b).view.read (Elt F) X)) Finset.univ))
      ∗ ((chunk imgA L r b).view.loc (thr d L) ↦[(chunk imgA L r b).view.set]{fullShare} X)) : sProp 𝕄)
      ⊢ iprop(inPts d L b (landed X L r b) ∗ imgPts d L r b X) := by
  rw [set_chunk_imgA]
  iintro ⟨H, Hx⟩
  isplitl [H]
  · iapply (Entails.of_eq (pointsTo_congr (write_in X L r b f))) $$ H
  · iexact Hx

/-- What the copy out delivers, likewise. -/
theorem out_landed (Y : Pic F) (d : Dev nD) (L : grid0.Coords) (r : Fin 8) (b : Fin 2) (g : Slots F) (Z : Pic F)
    (hg : ∀ i, (i 0).val = b.val → g i = Y (place L r b i)) :
    (iprop(((chunk outA L r b).view.loc (thr d L) ↦[chunkSet L r b]{fullShare}
        ((chunk outA L r b).view.write (Elt F) Z (ReadAs.same.apply ((slot outB b).view.read (Elt F) g)) Finset.univ))
      ∗ ((slot outB b).view.loc (thr d L) ↦[(slot outB b).view.set]{fullShare} g)) : sProp 𝕄)
      ⊢ iprop(resPts d L r b Y ∗ ∃ g, outPts d L b g) := by
  rw [set_slot_outB]
  iintro ⟨H, Hx⟩
  isplitl [H]
  · iapply (Entails.of_eq (pointsTo_congr (write_out Y L r b g hg Z))) $$ H
  · iexists g
    iexact Hx

theorem issueIn_wp (X : Pic F) (d : Dev nD) (L : grid0.Coords) (r : Fin 8) (b : Fin 2) (f : Slots F) {α : Type}
    (k : PUnit → TileProg F L α) (Q : α → sProp 𝕄) :
    iprop(imgPts d L r b X ∗ inPts d L b f ∗ semVal (inSem d L b) 0)
      ⊢ iprop((InFlight X d L r b -∗ tileWp d L (k ⟨⟩) Q) -∗ tileWp d L (issueIn L r b >>= k) Q) := by
  iintro ⟨Hx, Hf, Hs⟩ HK
  iapply (Transfers.wp_dmaLocal EC (defs := defs₀ (F := F)) 𝒱₀ (thr d L) none (Q := Q) (src := chunk imgA L r b) (via := ReadAs.same)
    (dst := slot inB b) (sm := .dma (cell cc0_scratch3 b)) (hsrc := View.wordExact_bits rfl)
    (hdst := (View.wordExact_bits rfl).reshape _ _) (hsem := ⟨Or.inl rfl, trivial⟩) (k := k) (q := fullShare) (fs := X)
    (Sd := slotSet b) (fd := f) none (slot inB b).view.dmaCredit rfl (View.dmaCredit_pos _ (by decide)) (by rw [set_slot_inB])) $$ [Hx Hf Hs]
  · isplitl [Hx]
    · rw [set_chunk_imgA]; iexact Hx
    isplitl [Hf] <;> iassumption
  iintro Hfl
  iapply HK
  unfold InFlight
  iapply (Transfers.Flight_mono EC (thr d L) (in_landed X d L r b f))
  iexact Hfl

theorem issueOut_wp (Y : Pic F) (d : Dev nD) (L : grid0.Coords) (r : Fin 8) (b : Fin 2) (g : Slots F) (Z : Pic F)
    (hg : ∀ i, (i 0).val = b.val → g i = Y (place L r b i)) {α : Type} (k : PUnit → TileProg F L α) (Q : α → sProp 𝕄) :
    iprop(outPts d L b g ∗ resPts d L r b Z ∗ semVal (outSem d L b) 0)
      ⊢ iprop((OutFlight Y d L r b -∗ tileWp d L (k ⟨⟩) Q) -∗ tileWp d L (issueOut L r b >>= k) Q) := by
  iintro ⟨Hx, Hf, Hs⟩ HK
  iapply (Transfers.wp_dmaLocal EC (defs := defs₀ (F := F)) 𝒱₀ (thr d L) none (Q := Q) (src := slot outB b) (via := ReadAs.same)
    (dst := chunk outA L r b) (sm := .dma (cell cc0_scratch4 b)) (hsrc := (View.wordExact_bits rfl).reshape _ _)
    (hdst := View.wordExact_bits rfl) (hsem := ⟨Or.inl rfl, trivial⟩) (k := k) (q := fullShare) (fs := g)
    (Sd := chunkSet L r b) (fd := Z) none (chunk outA L r b).view.dmaCredit rfl (View.dmaCredit_pos _ (by decide)) (by rw [set_chunk_outA])) $$ [Hx Hf Hs]
  · isplitl [Hx]
    · rw [set_slot_outB]; iexact Hx
    isplitl [Hf] <;> iassumption
  iintro Hfl
  iapply HK
  unfold OutFlight
  iapply (Transfers.Flight_mono EC (thr d L) (out_landed Y d L r b g Z hg))
  iexact Hfl

/-- What the tile may wait for, and what it has waited for since it began with `W`. -/
def Owes (d : Dev nD) (L : grid0.Coords) (O : CellTallies nD τ sig (HIx 1)) (W : Waits sig (HIx 1)) : sProp 𝕄 :=
  iprop((□ Transfers.MayWaits (thr d L) none O) ∗ ∃ W', ⌜∀ p ∈ W', p ∈ W ∨ p.2 = none⌝ ∗ owes (thr d L) O W')

theorem waits_insert {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.1 hp with e | hp
  · exact .inr (e ▸ rfl)
  · exact h p hp

theorem waitIn_wp (X : Pic F) (d : Dev nD) (L : grid0.Coords) (r : Fin 8) (b : Fin 2) (O : CellTallies nD τ sig (HIx 1))
    (W : Waits sig (HIx 1)) {α : Type} (k : PUnit → TileProg F L α) (Q : α → sProp 𝕄) :
    iprop(InFlight X d L r b ∗ Owes d L O W)
      ⊢ iprop((iprop(inPts d L b (landed X L r b) ∗ imgPts d L r b X ∗ semVal (inSem d L b) 0 ∗ Owes d L O W) -∗ tileWp d L (k ⟨⟩) Q)
        -∗ tileWp d L (waitIn L r b >>= k) Q) := by
  unfold Owes InFlight
  iintro ⟨Hfl, #Hmw, %W', %hW, HO⟩ HK
  iapply (Transfers.wp_waitLocalO EC (defs := defs₀ (F := F)) 𝒱₀ (thr d L) none (Q := Q) (srcw := chunk imgA L r b)
    (dstw := slot inB b) (sem := cell cc0_scratch3 b) (hsrc := View.wordExact_bits rfl) (hdst := (View.wordExact_bits rfl).reshape _ _)
    (k := k) none rfl) $$ [Hfl HO]
  · isplitl [Hfl]; · iexact Hfl
    isplitl [HO]; · iexact HO
    iapply (Transfers.MayWaits.elim (SemLoc.dma (cell cc0_scratch3 b))) $$ Hmw
  iintro ⟨⟨Hf, Hx⟩, Hs, HO⟩
  iapply HK
  isplitl [Hf]; · iexact Hf
  isplitl [Hx]; · iexact Hx
  isplitl [Hs]; · iexact Hs
  isplitr; · iexact Hmw
  iexists (insert (SemLoc.dma (cell cc0_scratch3 b), none) W')
  isplitr; · ipureintro; exact waits_insert _ hW
  iexact HO

theorem waitOut_wp (Y : Pic F) (d : Dev nD) (L : grid0.Coords) (r : Fin 8) (b : Fin 2) (O : CellTallies nD τ sig (HIx 1))
    (W : Waits sig (HIx 1)) {α : Type} (k : PUnit → TileProg F L α) (Q : α → sProp 𝕄) :
    iprop(OutFlight Y d L r b ∗ Owes d L O W)
      ⊢ iprop((iprop((∃ g, outPts d L b g) ∗ resPts d L r b Y ∗ semVal (outSem d L b) 0 ∗ Owes d L O W) -∗ tileWp d L (k ⟨⟩) Q)
        -∗ tileWp d L (waitOut L r b >>= k) Q) := by
  unfold Owes OutFlight
  iintro ⟨Hfl, #Hmw, %W', %hW, HO⟩ HK
  iapply (Transfers.wp_waitLocalO EC (defs := defs₀ (F := F)) 𝒱₀ (thr d L) none (Q := Q) (srcw := slot outB b)
    (dstw := chunk outA L r b) (sem := cell cc0_scratch4 b) (hsrc := (View.wordExact_bits rfl).reshape _ _) (hdst := View.wordExact_bits rfl)
    (k := k) none rfl) $$ [Hfl HO]
  · isplitl [Hfl]; · iexact Hfl
    isplitl [HO]; · iexact HO
    iapply (Transfers.MayWaits.elim (SemLoc.dma (cell cc0_scratch4 b))) $$ Hmw
  iintro ⟨⟨Hy, Hg⟩, Hs, HO⟩
  iapply HK
  isplitl [Hg]; · iexact Hg
  isplitl [Hy]; · iexact Hy
  isplitl [Hs]; · iexact Hs
  isplitr; · iexact Hmw
  iexists (insert (SemLoc.dma (cell cc0_scratch4 b), none) W')
  isplitr; · ipureintro; exact waits_insert _ hW
  iexact HO

end Cert.Proof

end
-- ==== Proof.Groups.lean ====
/-
  The groups of one tile: one half's loop and its copy out, a group between two others, and the eight groups together.
-/
module

public import proofs.«01_k».proof.Proof.Copies

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The shaded picture -/

/-- The same pixel of the picture in channel `ch`. -/
def atChan (p : S3x2048x2048.Idx) (ch : Fin 3) : S3x2048x2048.Idx := ix3 ch (p 1 : Fin 2048) (p 2 : Fin 2048)

/-- The picture `X` shaded with the colours `c`. -/
def shadePic (c : Fin 3 → F .f32) (X : Pic F) : Pic F := fun p =>
  shade (c (p 0)) (X p) (X (atChan p 0)) (X (atChan p 1)) (X (atChan p 2))

theorem shaded_landed (c : Fin 3 → F .f32) (X : Pic F) (L : grid0.Coords) (r : Fin 8) (b : Fin 2) (i : S2x3x8x1024.Idx) :
    shaded c (landed X L r b) i = shadePic c X (place L r b i) := rfl

/-! ## The slots at rest -/

/-- Input slot `b`, and output slot `b`, at rest: its contents whatever they are, its semaphore at zero. -/
def inFree (d : Dev nD) (L : grid0.Coords) (b : Fin 2) : sProp 𝕄 := iprop((∃ f, inPts d L b f) ∗ semVal (inSem d L b) 0)
def outFree (d : Dev nD) (L : grid0.Coords) (b : Fin 2) : sProp 𝕄 := iprop((∃ g, outPts d L b g) ∗ semVal (outSem d L b) 0)

section Steps

variable (X Z : Pic F) (c : Fin 3 → F .f32) (d : Dev nD) (L : grid0.Coords) (O : CellTallies nD τ sig (HIx 1)) (W : Waits sig (HIx 1))

theorem fetch (r : Fin 8) (b : Fin 2) {α : Type} (k : PUnit → TileProg F L α) (Q : α → sProp 𝕄) :
    iprop(imgPts d L r b X ∗ inFree d L b)
      ⊢ iprop((InFlight X d L r b -∗ tileWp d L (k ⟨⟩) Q) -∗ tileWp d L (issueIn L r b >>= k) Q) := by
  unfold inFree
  iintro ⟨Hx, ⟨%f, Hf⟩, Hs⟩ HK
  iapply (issueIn_wp X d L r b f k Q) $$ [Hx Hf Hs]
  · isplitl [Hx]; · iexact Hx
    isplitl [Hf] <;> iassumption
  iexact HK

theorem drain (Y : Pic F) (r : Fin 8) (b : Fin 2) {α : Type} (k : PUnit → TileProg F L α) (Q : α → sProp 𝕄) :
    iprop(OutFlight Y d L r b ∗ Owes d L O W)
      ⊢ iprop((iprop(outFree d L b ∗ resPts d L r b Y ∗ Owes d L O W) -∗ tileWp d L (k ⟨⟩) Q)
        -∗ tileWp d L (waitOut L r b >>= k) Q) := by
  unfold outFree
  iintro H HK
  iapply (waitOut_wp Y d L r b O W k Q) $$ H
  iintro ⟨Hg, Hy, Hs, HO⟩
  iapply HK
  isplitl [Hg Hs]
  · isplitl [Hg] <;> iassumption
  isplitl [Hy] <;> iassumption

/-- The loop over half `b` of group `r` and the start of its copy out. -/
theorem mid_wp (r : Fin 8) (b : Fin 2) {α : Type} (k : PUnit → TileProg F L α) (Q : α → sProp 𝕄) :
    iprop(inPts d L b (landed X L r b) ∗ semVal (inSem d L b) 0 ∗ outFree d L b ∗ resPts d L r b Z)
      ⊢ iprop((iprop(inFree d L b ∗ OutFlight (shadePic c X) d L r b) -∗ tileWp d L (k ⟨⟩) Q)
        -∗ tileWp d L (mid L r b (c 0) (c 1) (c 2) >>= k) Q) := by
  unfold inFree outFree
  iintro ⟨Hf, Hs, ⟨⟨%g, Hg⟩, Hs'⟩, Hz⟩ HK
  rw [show (mid L r b (c 0) (c 1) (c 2) >>= k) = (compute L b (c 0) (c 1) (c 2) >>= fun _ => issueOut L r b >>= k) from
    bind_assoc _ _ _]
  iapply (compute_wp d L b c (landed X L r b) g _ Q) $$ [Hf Hg]
  · isplitl [Hf] <;> iassumption
  iintro ⟨Hf, Hg⟩
  iapply (issueOut_wp (shadePic c X) d L r b _ Z (fun i _ => shaded_landed c X L r b i) k Q) $$ [Hg Hz Hs']
  · isplitl [Hg]; · iexact Hg
    isplitl [Hz] <;> iassumption
  iintro Ho
  iapply HK
  isplitl [Hf Hs]
  · isplitl [Hf]
    · iexists (landed X L r b); iexact Hf
    · iexact Hs
  · iexact Ho

/-- One half once its chunk is on its way in and its output slot is at rest. -/
theorem half_wp (r : Fin 8) (b : Fin 2) {α : Type} (k : PUnit → TileProg F L α) (Q : α → sProp 𝕄) :
    iprop(InFlight X d L r b ∗ outFree d L b ∗ resPts d L r b Z ∗ Owes d L O W)
      ⊢ iprop((iprop(inFree d L b ∗ OutFlight (shadePic c X) d L r b ∗ imgPts d L r b X ∗ Owes d L O W) -∗ tileWp d L (k ⟨⟩) Q)
        -∗ tileWp d L (waitIn L r b >>= fun _ => mid L r b (c 0) (c 1) (c 2) >>= k) Q) := by
  iintro ⟨Hi, Ho, Hz, HO⟩ HK
  iapply (waitIn_wp X d L r b O W _ Q) $$ [Hi HO]
  · isplitl [Hi] <;> iassumption
  iintro ⟨Hf, Hx, Hs, HO⟩
  iapply (mid_wp X Z c d L r b k Q) $$ [Hf Hs Ho Hz]
  · isplitl [Hf]; · iexact Hf
    isplitl [Hs]; · iexact Hs
    isplitl [Ho] <;> iassumption
  iintro ⟨Hf, Ho⟩
  iapply HK
  isplitl [Hf]; · iexact Hf
  isplitl [Ho]; · iexact Ho
  isplitl [Hx] <;> iassumption

/-- One half whose output slot is still on its way out, for group `q`. -/
theorem half_wp' (q r : Fin 8) (b : Fin 2) {α : Type} (k : PUnit → TileProg F L α) (Q : α → sProp 𝕄) :
    iprop(InFlight X d L r b ∗ OutFlight (shadePic c X) d L q b ∗ resPts d L r b Z ∗ Owes d L O W)
      ⊢ iprop((iprop(inFree d L b ∗ OutFlight (shadePic c X) d L r b ∗ imgPts d L r b X ∗ resPts d L q b (shadePic c X) ∗ Owes d L O W)
          -∗ tileWp d L (k ⟨⟩) Q)
        -∗ tileWp d L (waitIn L r b >>= fun _ => waitOut L q b >>= fun _ => mid L r b (c 0) (c 1) (c 2) >>= k) Q) := by
  iintro ⟨Hi, Ho, Hz, HO⟩ HK
  iapply (waitIn_wp X d L r b O W _ Q) $$ [Hi HO]
  · isplitl [Hi] <;> iassumption
  iintro ⟨Hf, Hx, Hs, HO⟩
  iapply (drain d L O W (shadePic c X) q b _ Q) $$ [Ho HO]
  · isplitl [Ho] <;> iassumption
  iintro ⟨Ho, Hy, HO⟩
  iapply (mid_wp X Z c d L r b k Q) $$ [Hf Hs Ho Hz]
  · isplitl [Hf]; · iexact Hf
    isplitl [Hs]; · iexact Hs
    isplitl [Ho] <;> iassumption
  iintro ⟨Hf, Ho⟩
  iapply HK
  isplitl [Hf]; · iexact Hf
  isplitl [Ho]; · iexact Ho
  isplitl [Hx]; · iexact Hx
  isplitl [Hy] <;> iassumption

/-! ## The groups -/

/-- Between two groups: chunk `(r, 0)` coming in, the copies of group `q` going out. -/
def Between (q r : Fin 8) : sProp 𝕄 :=
  iprop(InFlight X d L r 0 ∗ inFree d L 1 ∗ OutFlight (shadePic c X) d L q 0 ∗ OutFlight (shadePic c X) d L q 1 ∗ Owes d L O W)

theorem group_wp (q r s : Fin 8) {α : Type} (k : PUnit → TileProg F L α) (Q : α → sProp 𝕄) :
    iprop(Between X c d L O W q r ∗ imgPts d L r 1 X ∗ imgPts d L s 0 X ∗ resPts d L r 0 Z ∗ resPts d L r 1 Z)
      ⊢ iprop((iprop(Between X c d L O W r s ∗ imgPts d L r 0 X ∗ imgPts d L r 1 X
            ∗ resPts d L q 0 (shadePic c X) ∗ resPts d L q 1 (shadePic c X)) -∗ tileWp d L (k ⟨⟩) Q)
        -∗ tileWp d L (group L (c 0) (c 1) (c 2) q r s >>= k) Q) := by
  unfold Between
  iintro ⟨⟨Hi0, Hi1, Ho0, Ho1, HO⟩, Hx1, Hx0, Hz0, Hz1⟩ HK
  simp only [group, bind_assoc]
  iapply (fetch X d L r 1 _ Q) $$ [Hx1 Hi1]
  · isplitl [Hx1] <;> iassumption
  iintro Hi1
  iapply (half_wp' X Z c d L O W q r 0 _ Q) $$ [Hi0 Ho0 Hz0 HO]
  · isplitl [Hi0]; · iexact Hi0
    isplitl [Ho0]; · iexact Ho0
    isplitl [Hz0] <;> iassumption
  iintro ⟨Hi0, Ho0, Hxr0, Hy0, HO⟩
  iapply (fetch X d L s 0 _ Q) $$ [Hx0 Hi0]
  · isplitl [Hx0] <;> iassumption
  iintro Hi0
  iapply (half_wp' X Z c d L O W q r 1 _ Q) $$ [Hi1 Ho1 Hz1 HO]
  · isplitl [Hi1]; · iexact Hi1
    isplitl [Ho1]; · iexact Ho1
    isplitl [Hz1] <;> iassumption
  iintro ⟨Hi1, Ho1, Hxr1, Hy1, HO⟩
  iapply HK
  isplitl [Hi0 Hi1 Ho0 Ho1 HO]
  · isplitl [Hi0]; · iexact Hi0
    isplitl [Hi1]; · iexact Hi1
    isplitl [Ho0]; · iexact Ho0
    isplitl [Ho1] <;> iassumption
  isplitl [Hxr0]; · iexact Hxr0
  isplitl [Hxr1]; · iexact Hxr1
  isplitl [Hy0] <;> iassumption

theorem firstGroup_wp {α : Type} (k : PUnit → TileProg F L α) (Q : α → sProp 𝕄) :
    iprop(inFree d L 0 ∗ inFree d L 1 ∗ outFree d L 0 ∗ outFree d L 1 ∗ Owes d L O W
        ∗ imgPts d L 0 0 X ∗ imgPts d L 0 1 X ∗ imgPts d L 1 0 X ∗ resPts d L 0 0 Z ∗ resPts d L 0 1 Z)
      ⊢ iprop((iprop(Between X c d L O W 0 1 ∗ imgPts d L 0 0 X ∗ imgPts d L 0 1 X) -∗ tileWp d L (k ⟨⟩) Q)
        -∗ tileWp d L (firstGroup L (c 0) (c 1) (c 2) >>= k) Q) := by
  unfold Between
  iintro ⟨Hi0, Hi1, Ho0, Ho1, HO, Hx00, Hx01, Hx10, Hz0, Hz1⟩ HK
  simp only [firstGroup, bind_assoc]
  iapply (fetch X d L 0 0 _ Q) $$ [Hx00 Hi0]
  · isplitl [Hx00] <;> iassumption
  iintro Hi0
  iapply (fetch X d L 0 1 _ Q) $$ [Hx01 Hi1]
  · isplitl [Hx01] <;> iassumption
  iintro Hi1
  iapply (half_wp X Z c d L O W 0 0 _ Q) $$ [Hi0 Ho0 Hz0 HO]
  · isplitl [Hi0]; · iexact Hi0
    isplitl [Ho0]; · iexact Ho0
    isplitl [Hz0] <;> iassumption
  iintro ⟨Hi0, Ho0, Hx00, HO⟩
  iapply (fetch X d L 1 0 _ Q) $$ [Hx10 Hi0]
  · isplitl [Hx10] <;> iassumption
  iintro Hi0
  iapply (half_wp X Z c d L O W 0 1 _ Q) $$ [Hi1 Ho1 Hz1 HO]
  · isplitl [Hi1]; · iexact Hi1
    isplitl [Ho1]; · iexact Ho1
    isplitl [Hz1] <;> iassumption
  iintro ⟨Hi1, Ho1, Hx01, HO⟩
  iapply HK
  isplitl [Hi0 Hi1 Ho0 Ho1 HO]
  · isplitl [Hi0]; · iexact Hi0
    isplitl [Hi1]; · iexact Hi1
    isplitl [Ho0]; · iexact Ho0
    isplitl [Ho1] <;> iassumption
  isplitl [Hx00] <;> iassumption

theorem lastGroup_wp {α : Type} (k : PUnit → TileProg F L α) (Q : α → sProp 𝕄) :
    iprop(Between X c d L O W 6 7 ∗ imgPts d L 7 1 X ∗ resPts d L 7 0 Z ∗ resPts d L 7 1 Z)
      ⊢ iprop((iprop((inFree d L 0 ∗ inFree d L 1 ∗ outFree d L 0 ∗ outFree d L 1 ∗ Owes d L O W)
            ∗ imgPts d L 7 0 X ∗ imgPts d L 7 1 X ∗ resPts d L 6 0 (shadePic c X) ∗ resPts d L 6 1 (shadePic c X)
            ∗ resPts d L 7 0 (shadePic c X) ∗ resPts d L 7 1 (shadePic c X)) -∗ tileWp d L (k ⟨⟩) Q)
        -∗ tileWp d L (lastGroup L (c 0) (c 1) (c 2) >>= k) Q) := by
  unfold Between
  iintro ⟨⟨Hi0, Hi1, Ho0, Ho1, HO⟩, Hx1, Hz0, Hz1⟩ HK
  simp only [lastGroup, bind_assoc]
  iapply (fetch X d L 7 1 _ Q) $$ [Hx1 Hi1]
  · isplitl [Hx1] <;> iassumption
  iintro Hi1
  iapply (half_wp' X Z c d L O W 6 7 0 _ Q) $$ [Hi0 Ho0 Hz0 HO]
  · isplitl [Hi0]; · iexact Hi0
    isplitl [Ho0]; · iexact Ho0
    isplitl [Hz0] <;> iassumption
  iintro ⟨Hi0, Ho0, Hx0, Hy0, HO⟩
  iapply (half_wp' X Z c d L O W 6 7 1 _ Q) $$ [Hi1 Ho1 Hz1 HO]
  · isplitl [Hi1]; · iexact Hi1
    isplitl [Ho1]; · iexact Ho1
    isplitl [Hz1] <;> iassumption
  iintro ⟨Hi1, Ho1, Hx1, Hy1, HO⟩
  iapply (drain d L O W (shadePic c X) 7 0 _ Q) $$ [Ho0 HO]
  · isplitl [Ho0] <;> iassumption
  iintro ⟨Ho0, Hw0, HO⟩
  iapply (drain d L O W (shadePic c X) 7 1 _ Q) $$ [Ho1 HO]
  · isplitl [Ho1] <;> iassumption
  iintro ⟨Ho1, Hw1, HO⟩
  iapply HK
  isplitl [Hi0 Hi1 Ho0 Ho1 HO]
  · isplitl [Hi0]; · iexact Hi0
    isplitl [Hi1]; · iexact Hi1
    isplitl [Ho0]; · iexact Ho0
    isplitl [Ho1] <;> iassumption
  isplitl [Hx0]; · iexact Hx0
  isplitl [Hx1]; · iexact Hx1
  isplitl [Hy0]; · iexact Hy0
  isplitl [Hy1]; · iexact Hy1
  isplitl [Hw0] <;> iassumption

end Steps

end Cert.Proof

end
-- ==== Proof.Tile.lean ====
/-
  One tile's whole task: the eight groups together, the colours fetched before them, and what the task is handed and hands
  back.
-/
module

public import proofs.«01_k».proof.Proof.Groups

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The eight groups -/

/-- A resource for every chunk of the tile. -/
def allChunks (Φ : Fin 8 → Fin 2 → sProp 𝕄) : sProp 𝕄 := bigSep Finset.univ fun r => bigSep Finset.univ fun b => Φ r b

theorem allChunks_eq (Φ : Fin 8 → Fin 2 → sProp 𝕄) :
    allChunks Φ = iprop((Φ 0 0 ∗ Φ 0 1) ∗ (Φ 1 0 ∗ Φ 1 1) ∗ (Φ 2 0 ∗ Φ 2 1) ∗ (Φ 3 0 ∗ Φ 3 1) ∗ (Φ 4 0 ∗ Φ 4 1) ∗ (Φ 5 0 ∗ Φ 5 1)
      ∗ (Φ 6 0 ∗ Φ 6 1) ∗ Φ 7 0 ∗ Φ 7 1) := by
  unfold allChunks
  simp only [BI.bigSep_fin_two]
  rw [bigSep_univ_succ, bigSep_univ_succ, bigSep_univ_succ, bigSep_univ_succ, bigSep_univ_succ, bigSep_univ_succ, bigSep_univ_succ,
    bigSep_univ_of_subsingleton (0 : Fin 1)]
  rfl

/-- The tile's slots at rest, with its account of what it waited for. -/
def AtRest (d : Dev nD) (L : grid0.Coords) (O : CellTallies nD τ sig (HIx 1)) (W : Waits sig (HIx 1)) : sProp 𝕄 :=
  iprop(inFree d L 0 ∗ inFree d L 1 ∗ outFree d L 0 ∗ outFree d L 1 ∗ Owes d L O W)

theorem groups_wp (X Z : Pic F) (c : Fin 3 → F .f32) (d : Dev nD) (L : grid0.Coords) (O : CellTallies nD τ sig (HIx 1))
    (W : Waits sig (HIx 1)) {α : Type} (k : PUnit → TileProg F L α) (Q : α → sProp 𝕄) :
    iprop(AtRest d L O W ∗ allChunks (fun r b => imgPts d L r b X) ∗ allChunks (fun r b => resPts d L r b Z))
      ⊢ iprop((iprop(AtRest d L O W ∗ allChunks (fun r b => imgPts d L r b X) ∗ allChunks (fun r b => resPts d L r b (shadePic c X)))
          -∗ tileWp d L (k ⟨⟩) Q)
        -∗ tileWp d L (groups L (c 0) (c 1) (c 2) >>= k) Q) := by
  rw [allChunks_eq, allChunks_eq, allChunks_eq]
  unfold AtRest
  iintro ⟨⟨Hi0, Hi1, Ho0, Ho1, HO⟩,
    ⟨⟨X00, X01⟩, ⟨X10, X11⟩, ⟨X20, X21⟩, ⟨X30, X31⟩, ⟨X40, X41⟩, ⟨X50, X51⟩, ⟨X60, X61⟩, X70, X71⟩,
    ⟨⟨Z00, Z01⟩, ⟨Z10, Z11⟩, ⟨Z20, Z21⟩, ⟨Z30, Z31⟩, ⟨Z40, Z41⟩, ⟨Z50, Z51⟩, ⟨Z60, Z61⟩, Z70, Z71⟩⟩ HK
  simp only [groups, bind_assoc]
  iapply (firstGroup_wp X Z c d L O W _ Q) $$ [Hi0 Hi1 Ho0 Ho1 HO X00 X01 X10 Z00 Z01]
  · isplitl [Hi0]; · iexact Hi0
    isplitl [Hi1]; · iexact Hi1
    isplitl [Ho0]; · iexact Ho0
    isplitl [Ho1]; · iexact Ho1
    isplitl [HO]; · iexact HO
    isplitl [X00]; · iexact X00
    isplitl [X01]; · iexact X01
    isplitl [X10]; · iexact X10
    isplitl [Z00] <;> iassumption
  iintro ⟨HB, X00, X01⟩
  iapply (group_wp X Z c d L O W 0 1 2 _ Q) $$ [HB X11 X20 Z10 Z11]
  · isplitl [HB]; · iexact HB
    isplitl [X11]; · iexact X11
    isplitl [X20]; · iexact X20
    isplitl [Z10] <;> iassumption
  iintro ⟨HB, X10, X11, Y00, Y01⟩
  iapply (group_wp X Z c d L O W 1 2 3 _ Q) $$ [HB X21 X30 Z20 Z21]
  · isplitl [HB]; · iexact HB
    isplitl [X21]; · iexact X21
    isplitl [X30]; · iexact X30
    isplitl [Z20] <;> iassumption
  iintro ⟨HB, X20, X21, Y10, Y11⟩
  iapply (group_wp X Z c d L O W 2 3 4 _ Q) $$ [HB X31 X40 Z30 Z31]
  · isplitl [HB]; · iexact HB
    isplitl [X31]; · iexact X31
    isplitl [X40]; · iexact X40
    isplitl [Z30] <;> iassumption
  iintro ⟨HB, X30, X31, Y20, Y21⟩
  iapply (group_wp X Z c d L O W 3 4 5 _ Q) $$ [HB X41 X50 Z40 Z41]
  · isplitl [HB]; · iexact HB
    isplitl [X41]; · iexact X41
    isplitl [X50]; · iexact X50
    isplitl [Z40] <;> iassumption
  iintro ⟨HB, X40, X41, Y30, Y31⟩
  iapply (group_wp X Z c d L O W 4 5 6 _ Q) $$ [HB X51 X60 Z50 Z51]
  · isplitl [HB]; · iexact HB
    isplitl [X51]; · iexact X51
    isplitl [X60]; · iexact X60
    isplitl [Z50] <;> iassumption
  iintro ⟨HB, X50, X51, Y40, Y41⟩
  iapply (group_wp X Z c d L O W 5 6 7 _ Q) $$ [HB X61 X70 Z60 Z61]
  · isplitl [HB]; · iexact HB
    isplitl [X61]; · iexact X61
    isplitl [X70]; · iexact X70
    isplitl [Z60] <;> iassumption
  iintro ⟨HB, X60, X61, Y50, Y51⟩
  iapply (lastGroup_wp X Z c d L O W _ Q) $$ [HB X71 Z70 Z71]
  · isplitl [HB]; · iexact HB
    isplitl [X71]; · iexact X71
    isplitl [Z70] <;> iassumption
  iintro ⟨HR, X70, X71, Y60, Y61, Y70, Y71⟩
  iapply HK
  isplitl [HR]; · iexact HR
  isplitl [X00 X01 X10 X11 X20 X21 X30 X31 X40 X41 X50 X51 X60 X61 X70 X71]
  · isplitl [X00 X01]; · isplitl [X00] <;> iassumption
    isplitl [X10 X11]; · isplitl [X10] <;> iassumption
    isplitl [X20 X21]; · isplitl [X20] <;> iassumption
    isplitl [X30 X31]; · isplitl [X30] <;> iassumption
    isplitl [X40 X41]; · isplitl [X40] <;> iassumption
    isplitl [X50 X51]; · isplitl [X50] <;> iassumption
    isplitl [X60 X61]; · isplitl [X60] <;> iassumption
    isplitl [X70] <;> iassumption
  · isplitl [Y00 Y01]; · isplitl [Y00] <;> iassumption
    isplitl [Y10 Y11]; · isplitl [Y10] <;> iassumption
    isplitl [Y20 Y21]; · isplitl [Y20] <;> iassumption
    isplitl [Y30 Y31]; · isplitl [Y30] <;> iassumption
    isplitl [Y40 Y41]; · isplitl [Y40] <;> iassumption
    isplitl [Y50 Y51]; · isplitl [Y50] <;> iassumption
    isplitl [Y60 Y61]; · isplitl [Y60] <;> iassumption
    isplitl [Y70] <;> iassumption

/-! ## The colours -/

/-- The three colours, out of the sixteen words. -/
def colours (C : S16.Idx → F .f32) : Fin 3 → F .f32 := fun ch => C (ix1 (⟨ch.val, by omega⟩ : Fin 16))

/-- What the load of the sixteen words reads. -/
abbrev colRead (C : S16.Idx → F .f32) : Vec F S16 .f32 :=
  colB.view.readAt (Elt F) (Rect.unit (s := S16) ![0] S16.size inb_S16_S16_0).toLoadRect C

theorem colRead_eq (C : S16.Idx → F .f32) : colRead C = C := by
  funext i
  show C _ = C _
  congr 1
  funext a
  match a with
  | 0 => apply Fin.ext; show 0 + 1 * (i 0).val = (i 0).val; omega

theorem pay_colours (C : S16.Idx → F .f32) :
    k0_pay178 C = colours C 0 ∧ k0_pay179 C = colours C 1 ∧ k0_pay180 C = colours C 2 := by
  refine ⟨?_, ?_, ?_⟩
  all_goals
    show C _ = C _
    congr 1
    funext a
    match a with
    | 0 => rfl

end Cert.Proof

end
-- ==== Proof.Task.lean ====
/-
  The task of one vector subcore as the launch hands it over: the subcore's own buffers and semaphores taken apart into the
  slots and the cells the body names, the body run, and everything put back.
-/
module

public import proofs.«01_k».proof.Proof.Tile

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A pair of slots, whole and in two -/

theorem slots_disjoint : ∀ a ∈ (Finset.univ : Finset (Fin 2)), ∀ b ∈ (Finset.univ : Finset (Fin 2)), a ≠ b → Disjoint (slotSet a) (slotSet b) := by
  intro a _ b _ h
  refine Finset.disjoint_left.2 fun i ha hb => h (Fin.ext ?_)
  rw [← (mem_slotSet a i).1 ha, ← (mem_slotSet b i).1 hb]

theorem slots_cover : (Finset.univ : Finset (Fin 2)).biUnion slotSet = Finset.univ := by
  ext i
  simp only [Finset.mem_biUnion, Finset.mem_univ, true_and, iff_true]
  exact ⟨(i 0 : Fin 2), (mem_slotSet _ i).2 rfl⟩

variable (d : Dev nD) (L : grid0.Coords)

theorem in_split (f : Slots F) :
    ((thr d L).loc cc0_scratch1 ↦{fullShare} f : sProp 𝕄) = iprop(inPts d L 0 f ∗ inPts d L 1 f) := by
  have h := pointsTo_biUnion (Val := Elt F) (Ix := HIx 1) (Name := ℕ) (U := UU) (Lvl := ℕ) (ℓ := (thr d L).loc cc0_scratch1) (q := fullShare) (f := f)
    Finset.univ slotSet slots_disjoint
  rw [slots_cover, BI.bigSep_fin_two] at h
  exact h

theorem out_split (f : Slots F) :
    ((thr d L).loc cc0_scratch2 ↦{fullShare} f : sProp 𝕄) = iprop(outPts d L 0 f ∗ outPts d L 1 f) := by
  have h := pointsTo_biUnion (Val := Elt F) (Ix := HIx 1) (Name := ℕ) (U := UU) (Lvl := ℕ) (ℓ := (thr d L).loc cc0_scratch2) (q := fullShare) (f := f)
    Finset.univ slotSet slots_disjoint
  rw [slots_cover, BI.bigSep_fin_two] at h
  exact h

/-- Two slots' contents as one pair's. -/
def pairUp (f₀ f₁ : Slots F) : Slots F := fun i => if (i 0).val = 0 then f₀ i else f₁ i

theorem pairUp_zero (f₀ f₁ : Slots F) : ∀ i ∈ slotSet 0, f₀ i = pairUp f₀ f₁ i := fun i hi =>
  (if_pos ((mem_slotSet 0 i).1 hi)).symm
theorem pairUp_one (f₀ f₁ : Slots F) : ∀ i ∈ slotSet 1, f₁ i = pairUp f₀ f₁ i := fun i hi =>
  (if_neg (by rw [(mem_slotSet 1 i).1 hi]; decide)).symm

theorem in_join : (iprop((∃ f, inPts d L 0 f) ∗ ∃ f, inPts d L 1 f) : sProp 𝕄) ⊢ iprop(∃ f, (thr d L).loc cc0_scratch1 ↦{fullShare} f) := by
  iintro ⟨⟨%f₀, H₀⟩, %f₁, H₁⟩
  iexists (pairUp f₀ f₁)
  rw [in_split]
  isplitl [H₀]
  · iapply (Entails.of_eq (pointsTo_congr (pairUp_zero f₀ f₁))) $$ H₀
  · iapply (Entails.of_eq (pointsTo_congr (pairUp_one f₀ f₁))) $$ H₁

theorem out_join : (iprop((∃ f, outPts d L 0 f) ∗ ∃ f, outPts d L 1 f) : sProp 𝕄) ⊢ iprop(∃ f, (thr d L).loc cc0_scratch2 ↦{fullShare} f) := by
  iintro ⟨⟨%f₀, H₀⟩, %f₁, H₁⟩
  iexists (pairUp f₀ f₁)
  rw [out_split]
  isplitl [H₀]
  · iapply (Entails.of_eq (pointsTo_congr (pairUp_zero f₀ f₁))) $$ H₀
  · iapply (Entails.of_eq (pointsTo_congr (pairUp_one f₀ f₁))) $$ H₁

/-! ## The subcore's own semaphores and buffers -/

/-- The semaphore of the colours' copy. -/
abbrev colSem : GSem nD τ sig := (thr d L, .dma cc0_scoped0.sem)

/-- The five semaphores the body uses, and the rest. -/
theorem ownSems0_V :
    ∃ R : sProp 𝕄, (ownSems0 (thr d L) : sProp 𝕄)
      = iprop(semVal (colSem d L) 0 ∗ semVal (inSem d L 0) 0 ∗ semVal (inSem d L 1) 0 ∗ semVal (outSem d L 0) 0 ∗ semVal (outSem d L 1) 0 ∗ R) := by
  have own : ∀ sm : SemLoc sig, sm.isScoped .scVector = true → ((thr d L, sm) : GSem nD τ sig) ∈ ownCells (thr d L) := fun sm h =>
    mem_ownCells.mpr ⟨rfl, h⟩
  have ne : ∀ sm sm' : SemLoc sig, sm ≠ sm' → ((thr d L, sm) : GSem nD τ sig) ≠ (thr d L, sm') := fun sm sm' h e => h (Prod.mk.inj e).2
  unfold SparseCore.Cfg.ownSems0
  apply Exists.intro
  rw [SparseCore.bigSep_erase' (own (.dma cc0_scoped0.sem) (by decide)),
    SparseCore.bigSep_erase' (i := inSem d L 0) (Finset.mem_erase.mpr ⟨ne _ _ (by decide), own _ (by decide)⟩),
    SparseCore.bigSep_erase' (i := inSem d L 1) (Finset.mem_erase.mpr ⟨ne _ _ (by decide), Finset.mem_erase.mpr ⟨ne _ _ (by decide), own _ (by decide)⟩⟩),
    SparseCore.bigSep_erase' (i := outSem d L 0) (Finset.mem_erase.mpr ⟨ne _ _ (by decide), Finset.mem_erase.mpr ⟨ne _ _ (by decide),
      Finset.mem_erase.mpr ⟨ne _ _ (by decide), own _ (by decide)⟩⟩⟩),
    SparseCore.bigSep_erase' (i := outSem d L 1) (Finset.mem_erase.mpr ⟨ne _ _ (by decide), Finset.mem_erase.mpr ⟨ne _ _ (by decide),
      Finset.mem_erase.mpr ⟨ne _ _ (by decide), Finset.mem_erase.mpr ⟨ne _ _ (by decide), own _ (by decide)⟩⟩⟩⟩)]

/-- The three scratch buffers, and the rest. -/
theorem ownBufs_V :
    ∃ R : sProp 𝕄, (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ R) := by
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  apply Exists.intro
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ne cc0_scratch1 cc0_scratch0 (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide),
      Finset.mem_erase.mpr ⟨ne cc0_scratch2 cc0_scratch0 (by decide), SparseCore.Cfg.mem_ownRefs_of_owner (p := Proc.scVector (cV L) (jV L)) (b := (Proc.scVector (cV L) (jV L)).devRef cc0_scratch2) rfl⟩⟩)]

/-! ## The task -/

/-- The colours, read at share `q`. -/
abbrev colPts (q : PosShare TreeShare) (C : S16.Idx → F .f32) : sProp 𝕄 := colA.view.loc (thr d L) ↦{q} C

theorem colours_landed (q : PosShare TreeShare) (C f : S16.Idx → F .f32) :
    (iprop((colB.view.loc (thr d L) ↦[Finset.univ]{fullShare}
        (colB.view.write (Elt F) f (ReadAs.same.apply (colA.view.read (Elt F) C)) Finset.univ))
      ∗ (colA.view.loc (thr d L) ↦[colA.view.set]{q} C)) : sProp 𝕄)
      ⊢ iprop((colB.view.loc (thr d L) ↦{fullShare} C) ∗ colPts d L q C) := by
  rw [show colB.view.write (Elt F) f (ReadAs.same.apply (colA.view.read (Elt F) C)) Finset.univ = C from
    View.write_whole_univ (Val := Elt F) cc0_scratch0 f C, show colA.view.set = Finset.univ from View.set_whole main_v3_scv]

/-- The load alone. -/
theorem load_colours (C : S16.Idx → F .f32) (Q : PUnit → sProp 𝕄) :
    (colB.view.loc (thr d L) ↦{fullShare} C : sProp 𝕄)
      ⊢ iprop(((colB.view.loc (thr d L) ↦{fullShare} C)
          -∗ tileWp d L (groups L (colours C 0) (colours C 1) (colours C 2) >>= fun _ => pure ⟨⟩) Q)
        -∗ tileWp d L (.op (.load colB (Rect.unit (s := S16) ![0] S16.size inb_S16_S16_0).toLoadRect (View.loadsAt_vmem h_S16))
            fun v : Vec F S16 .f32 => groups L (k0_pay178 v) (k0_pay179 v) (k0_pay180 v) >>= fun _ => pure ⟨⟩) Q) := by
  have h := wp_load (Γ := PendingWaitsCtx.empty) (defs := defs₀ (F := F)) 𝒱₀ (thr d L) none Set.univ (Q := Q) (m := colB)
    (r := (Rect.unit (s := S16) ![0] S16.size inb_S16_S16_0).toLoadRect) (hl := View.loadsAt_vmem h_S16)
    (k := fun v : Vec F S16 .f32 => groups L (k0_pay178 v) (k0_pay179 v) (k0_pay180 v) >>= fun _ => pure ⟨⟩)
    (S := Finset.univ) (q := fullShare) (f := C) (Finset.subset_univ _)
  have e : colB.view.readAt (Elt F) (Rect.unit (s := S16) ![0] S16.size inb_S16_S16_0).toLoadRect C = C := colRead_eq C
  rw [e] at h
  rw [← (pay_colours C).1, ← (pay_colours C).2.1, ← (pay_colours C).2.2]
  exact h

/-- The colours' copy, its wait and the load: the groups then run at the three colours. -/
theorem colours_wp (q : PosShare TreeShare) (C f : S16.Idx → F .f32) (O : CellTallies nD τ sig (HIx 1)) (W : Waits sig (HIx 1))
    (Q : PUnit → sProp 𝕄) :
    iprop(colPts d L q C ∗ (colB.view.loc (thr d L) ↦{fullShare} f) ∗ semVal (colSem d L) 0 ∗ Owes d L O W)
      ⊢ iprop((iprop(colPts d L q C ∗ (colB.view.loc (thr d L) ↦{fullShare} C) ∗ semVal (colSem d L) 0 ∗ Owes d L O W)
          -∗ tileWp d L (groups L (colours C 0) (colours C 1) (colours C 2) >>= fun _ => pure ⟨⟩) Q)
        -∗ tileWp d L (body L) Q) := by
  unfold Owes
  iintro ⟨Hc, Hb, Hs, #Hmw, %W', %hW, HO⟩ HK
  unfold body
  iapply (Transfers.wp_dmaLocal EC (defs := defs₀ (F := F)) 𝒱₀ (thr d L) none (Q := Q) (src := colA) (via := ReadAs.same)
    (dst := colB) (sm := .dma cc0_scoped0.sem) (hsrc := (Memref.isWhole_whole _).wordExact)
    (hdst := (Memref.isWhole_whole _).wordExact) (hsem := ⟨Or.inl rfl, trivial⟩) (q := q) (fs := C)
    (Sd := Finset.univ) (fd := f) none colB.view.dmaCredit rfl (View.dmaCredit_pos _ (by decide)) (Finset.subset_univ _)) $$ [Hc Hb Hs]
  · isplitl [Hc]
    · rw [show colA.view.set = Finset.univ from View.set_whole main_v3_scv]; iexact Hc
    isplitl [Hb] <;> iassumption
  iintro Hfl
  ihave Hfl := (Transfers.Flight_mono EC (thr d L) (colours_landed d L q C f)) $$ Hfl
  iapply (Transfers.wp_waitLocalO EC (defs := defs₀ (F := F)) 𝒱₀ (thr d L) none (Q := Q) (srcw := colA)
    (dstw := colB) (sem := cc0_scoped0.sem) (hsrc := (Memref.isWhole_whole _).wordExact) (hdst := (Memref.isWhole_whole _).wordExact)
    none rfl) $$ [Hfl HO]
  · isplitl [Hfl]; · iexact Hfl
    isplitl [HO]; · iexact HO
    iapply (Transfers.MayWaits.elim (SemLoc.dma cc0_scoped0.sem)) $$ Hmw
  iintro ⟨⟨Hb, Hc⟩, Hs, HO⟩
  iapply (load_colours d L C Q) $$ Hb
  iintro Hb
  iapply HK
  isplitl [Hc]; · iexact Hc
  isplitl [Hb]; · iexact Hb
  isplitl [Hs]; · iexact Hs
  isplitr; · iexact Hmw
  iexists (insert (SemLoc.dma cc0_scoped0.sem, none) W')
  isplitr; · ipureintro; exact waits_insert _ hW
  iexact HO

/-- The task on the subcore at `L`. -/
theorem tile_body (X Z : Pic F) (C : S16.Idx → F .f32) (q : PosShare TreeShare) (hF : (K (F := F)).Facts)
    (O : CellTallies nD τ sig (HIx 1)) (W : Waits sig (HIx 1)) (hO : ∀ g, O g none = 0) :
    iprop(levAts (K (F := F)).L (K (F := F)).lev ∗ iprop(emp)
        ∗ (colPts d L q C ∗ allChunks (fun r b => imgPts d L r b X) ∗ allChunks (fun r b => resPts d L r b Z))
        ∗ scopedBufs (thr d L) ∗ scopedSems0 (thr d L) ∗ owes (thr d L) O W)
      ⊢ wp frame (wpE (defs₀ (F := F)) 𝒱₀ (thr d L) none) Set.univ
          (cc0__sc_body (F := F) L imgA (Memref.isWhole_whole _) colA (Memref.isWhole_whole _) outA (Memref.isWhole_whole _)
            colB (Memref.isWhole_whole _) inB (Memref.isWhole_whole _) outB (Memref.isWhole_whole _) cc0_scratch3 cc0_scratch4 cc0_scoped0)
          fun _ => iprop((colPts d L q C ∗ allChunks (fun r b => imgPts d L r b X)
              ∗ allChunks (fun r b => resPts d L r b (shadePic (colours C) X)))
            ∗ scopedBufs (thr d L) ∗ scopedSems0 (thr d L) ∗ ∃ W', ⌜∀ p ∈ W', p ∈ W ∨ p.2 = none⌝ ∗ owes (thr d L) O W') := by
  obtain ⟨Rs, hRs⟩ := ownSems0_V (F := F) d L
  obtain ⟨Rb, hRb⟩ := ownBufs_V (F := F) d L
  rw [body_eq, (K (F := F)).scopedBufs_V hF d (cV L) (jV L), SparseCore.Cfg.scopedSems0_V (Val := Elt F) d (cV L) (jV L), hRs, hRb]
  iintro ⟨#Hlv, -, ⟨Hc, Hx, Hz⟩, ⟨⟨%f0, Hb⟩, ⟨%f1, Hi⟩, ⟨%f2, Ho⟩, HRb⟩, ⟨Hs, Hs0, Hs1, Ht0, Ht1, HRs⟩, HO⟩
  ihave #Hmw := ((K (F := F)).mayWaits_none (thr := thr d L) hO) $$ Hlv
  ihave Hi' := (Entails.of_eq (in_split (F := F) d L f1)) $$ Hi
  ihave Ho' := (Entails.of_eq (out_split (F := F) d L f2)) $$ Ho
  icases Hi' with ⟨Hi0, Hi1⟩
  icases Ho' with ⟨Ho0, Ho1⟩
  iapply (colours_wp d L q C f0 O W _) $$ [Hc Hb Hs HO]
  · isplitl [Hc]; · iexact Hc
    isplitl [Hb]; · iexact Hb
    isplitl [Hs]; · iexact Hs
    unfold Owes
    isplitr; · iexact Hmw
    iexists W
    isplitr; · ipureintro; exact fun p hp => .inl hp
    iexact HO
  iintro ⟨Hc, Hb, Hs, HO⟩
  iapply (groups_wp X Z (colours C) d L O W _ _) $$ [Hi0 Hi1 Ho0 Ho1 Hs0 Hs1 Ht0 Ht1 HO Hx Hz]
  · isplitl [Hi0 Hi1 Ho0 Ho1 Hs0 Hs1 Ht0 Ht1 HO]
    · unfold AtRest inFree outFree
      isplitl [Hi0 Hs0]
      · isplitl [Hi0]; · iexists f1; iexact Hi0
        iexact Hs0
      isplitl [Hi1 Hs1]
      · isplitl [Hi1]; · iexists f1; iexact Hi1
        iexact Hs1
      isplitl [Ho0 Ht0]
      · isplitl [Ho0]; · iexists f2; iexact Ho0
        iexact Ht0
      isplitl [Ho1 Ht1]
      · isplitl [Ho1]; · iexists f2; iexact Ho1
        iexact Ht1
      iexact HO
    · isplitl [Hx] <;> iassumption
  unfold AtRest inFree outFree Owes
  iintro ⟨⟨⟨Hi0, Hs0⟩, ⟨Hi1, Hs1⟩, ⟨Ho0, Ht0⟩, ⟨Ho1, Ht1⟩, -, HO⟩, Hx, Hy⟩
  rw [tileWp, wp_pure]
  imodintro
  isplitl [Hc Hx Hy]
  · isplitl [Hc]; · iexact Hc
    isplitl [Hx] <;> iassumption
  isplitl [Hb Hi0 Hi1 Ho0 Ho1 HRb]
  · isplitl [Hb]; · iexists C; iexact Hb
    isplitl [Hi0 Hi1]
    · iapply (in_join d L)
      isplitl [Hi0] <;> iassumption
    isplitl [Ho0 Ho1]
    · iapply (out_join d L)
      isplitl [Ho0] <;> iassumption
    iexact HRb
  isplitl [Hs Hs0 Hs1 Ht0 Ht1 HRs]
  · isplitl [Hs]; · iexact Hs
    isplitl [Hs0]; · iexact Hs0
    isplitl [Hs1]; · iexact Hs1
    isplitl [Ht0]; · iexact Ht0
    isplitl [Ht1] <;> iassumption
  iexact HO

end Cert.Proof

end
-- ==== Proof.Launch.lean ====
/-
  The launch: how the picture, the result and the colours are dealt to the two SparseCores and their sixteen tiles each,
  and what the launch theorem asks of the kernel.
-/
module

public import proofs.«01_k».proof.Proof.Task

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tiles -/

/-- The tile of SparseCore `c` on vector subcore `i`. -/
def tileAt (c : Fin 2) (i : Fin 16) : grid0.Coords :=
  fun | 0 => c | 1 => i | ⟨_ + 2, h⟩ => absurd h (Nat.not_lt.2 (Nat.le_add_left _ _))

theorem nCore_zero : (K (F := F)).nCore 0 = 2 := rfl
theorem nSub_zero : (K (F := F)).nSub 0 = 16 := rfl

/-- A chunk's name: core, subcore, row block, half. -/
abbrev ChunkIx : Type := Fin 2 × Fin 16 × Fin 8 × Fin 2
def chunkOf (x : ChunkIx) : Finset S3x2048x2048.Idx := chunkSet (tileAt x.1 x.2.1) x.2.2.1 x.2.2.2

theorem mem_chunkOf (x : ChunkIx) (p : S3x2048x2048.Idx) :
    p ∈ chunkOf x ↔ (p 1).val / 8 = 16 * x.2.1.val + 8 * x.1.val + x.2.2.1.val ∧ (p 2).val / 1024 = x.2.2.2.val :=
  mem_chunkSet _ _ _ _

theorem chunks_disjoint : ∀ x ∈ (Finset.univ : Finset ChunkIx), ∀ y ∈ (Finset.univ : Finset ChunkIx), x ≠ y →
    Disjoint (chunkOf x) (chunkOf y) := by
  rintro ⟨c, i, r, b⟩ _ ⟨c', i', r', b'⟩ _ h
  refine Finset.disjoint_left.2 fun p h₁ h₂ => h ?_
  obtain ⟨e₁, f₁⟩ := (mem_chunkOf _ _).1 h₁
  obtain ⟨e₂, f₂⟩ := (mem_chunkOf _ _).1 h₂
  dsimp only at e₁ e₂ f₁ f₂
  have hc : c.val = c'.val := by omega
  have hi : i.val = i'.val := by omega
  have hr : r.val = r'.val := by omega
  have hb : b.val = b'.val := by omega
  rw [Fin.ext hc, Fin.ext hi, Fin.ext hr, Fin.ext hb]

theorem chunks_cover : (Finset.univ : Finset ChunkIx).biUnion chunkOf = Finset.univ := by
  ext p
  simp only [Finset.mem_biUnion, Finset.mem_univ, true_and, iff_true]
  have h1 : (p 1).val < 2048 := (p 1).isLt
  have h2 : (p 2).val < 2048 := (p 2).isLt
  refine ⟨(⟨(p 1).val / 64 % 2, by omega⟩, ⟨(p 1).val / 128, by omega⟩, ⟨(p 1).val / 8 % 8, by omega⟩, ⟨(p 2).val / 1024, by omega⟩), ?_⟩
  rw [mem_chunkOf]
  dsimp only
  constructor <;> omega

/-- A family over the chunks' names, core by core and tile by tile. -/
theorem chunks_nested (Φ : ChunkIx → sProp 𝕄) :
    bigSep Finset.univ Φ = bigSep Finset.univ fun c : Fin 2 => bigSep Finset.univ fun i : Fin 16 => allChunks fun r b => Φ (c, i, r, b) := by
  unfold allChunks
  rw [← Finset.univ_product_univ, SparseCore.bigSep_product]
  refine bigSep_congr fun c _ => ?_
  rw [← Finset.univ_product_univ, SparseCore.bigSep_product]
  refine bigSep_congr fun i _ => ?_
  rw [← Finset.univ_product_univ, SparseCore.bigSep_product]

theorem img_chunks (d : Dev nD) (X : Pic F) :
    (imgLoc d ↦{fullShare} X : sProp 𝕄)
      = bigSep Finset.univ fun c : Fin 2 => bigSep Finset.univ fun i : Fin 16 => allChunks fun r b => imgPts d (tileAt c i) r b X := by
  have h := pointsTo_biUnion (Val := Elt F) (Ix := HIx 1) (Name := ℕ) (U := UU) (Lvl := ℕ) (ℓ := imgLoc d) (q := fullShare) (f := X)
    Finset.univ chunkOf chunks_disjoint
  rw [chunks_cover, chunks_nested] at h
  exact h

theorem out_chunks (d : Dev nD) (Y : Pic F) :
    (outLoc d ↦{fullShare} Y : sProp 𝕄)
      = bigSep Finset.univ fun c : Fin 2 => bigSep Finset.univ fun i : Fin 16 => allChunks fun r b => resPts d (tileAt c i) r b Y := by
  have h := pointsTo_biUnion (Val := Elt F) (Ix := HIx 1) (Name := ℕ) (U := UU) (Lvl := ℕ) (ℓ := outLoc d) (q := fullShare) (f := Y)
    Finset.univ chunkOf chunks_disjoint
  rw [chunks_cover, chunks_nested] at h
  exact h

/-! ## What one SparseCore and one tile hold -/

/-- SparseCore `c`'s share of the colours. -/
abbrev coreShare (c : Fin 2) : PosShare TreeShare := piece fullShare 1 c

/-- SparseCore `c`: its share of the colours, and its tiles' chunks of the picture and of the result, at `Y`. -/
def coreRes (C : S16.Idx → F .f32) (X Y : Pic F) (d : Dev nD) (c : Fin 2) : sProp 𝕄 :=
  iprop((colLoc d ↦{coreShare c} C) ∗ (bigSep Finset.univ fun i : Fin 16 => allChunks fun r b => imgPts d (tileAt c i) r b X)
    ∗ bigSep Finset.univ fun i : Fin 16 => allChunks fun r b => resPts d (tileAt c i) r b Y)

/-- The same of tile `(c, i)`. -/
def tileRes (C : S16.Idx → F .f32) (X Y : Pic F) (d : Dev nD) (c : Fin 2) (i : Fin 16) : sProp 𝕄 :=
  iprop(colPts d (tileAt c i) (piece (coreShare c) 15 i) C ∗ allChunks (fun r b => imgPts d (tileAt c i) r b X)
    ∗ allChunks fun r b => resPts d (tileAt c i) r b Y)

theorem col_pieces (d : Dev nD) (C : S16.Idx → F .f32) (n : ℕ) (q : PosShare TreeShare) :
    (colLoc d ↦{q} C : sProp 𝕄) = bigSep Finset.univ fun k : Fin (n + 1) => colLoc d ↦{piece q n k} C :=
  pointsTo_pieces (Val := Elt F) (Ix := HIx 1) (Name := ℕ) (U := UU) (Lvl := ℕ) (ℓ := colLoc d) Finset.univ C n q

theorem coreRes_eq (C : S16.Idx → F .f32) (X Y : Pic F) (d : Dev nD) (c : Fin 2) :
    coreRes C X Y d c = bigSep Finset.univ fun i : Fin 16 => tileRes C X Y d c i := by
  unfold coreRes tileRes
  rw [bigSep_sep', bigSep_sep', col_pieces d C 15 (coreShare c)]

theorem cores_eq (C : S16.Idx → F .f32) (X Y : Pic F) (d : Dev nD) :
    (bigSep Finset.univ fun c : Fin 2 => coreRes C X Y d c)
      = (iprop((colLoc d ↦{fullShare} C) ∗ (imgLoc d ↦{fullShare} X) ∗ outLoc d ↦{fullShare} Y) : sProp 𝕄) := by
  unfold coreRes
  rw [bigSep_sep', bigSep_sep', img_chunks, out_chunks, col_pieces d C 1 fullShare]

instance coreRes_storable (C : S16.Idx → F .f32) (X Y : Pic F) (d : Dev nD) (c : Fin 2) :
    BI.Storable (upEmb : UEmb _ 𝕄) (coreRes C X Y d c) := by
  unfold coreRes allChunks; infer_instance
instance tileRes_storable (C : S16.Idx → F .f32) (X Y : Pic F) (d : Dev nD) (c : Fin 2) (i : Fin 16) :
    BI.Storable (upEmb : UEmb _ 𝕄) (tileRes C X Y d c i) := by
  unfold tileRes allChunks; infer_instance

/-! ## The call -/

/-- What the launch holds at the call: the colours, the picture, the result's first contents. -/
structure Args (F : FTy → Type) where
  C : Dev nD → S16.Idx → F .f32
  X : Dev nD → Pic F
  Z : Dev nD → Pic F

/-- The result. -/
def Args.Y (a : Args F) (d : Dev nD) : Pic F := shadePic (colours (a.C d)) (a.X d)

variable (a : Args F)

/-- The one call takes the colours, the picture and the result, and brings them back, the result shaded. -/
def P : (K (F := F)).Pay (nD := nD) (Val := Elt F) (Name := ℕ) (U := UU) where
  st := fun q d c => match q with | 0 => coreRes (a.C d) (a.X d) (a.Z d) d (Fin.cast nCore_zero c)
  dn := fun q d c => match q with | 0 => coreRes (a.C d) (a.X d) (a.Y d) d (Fin.cast nCore_zero c)
  go := fun q d c i => match q with | 0 => tileRes (a.C d) (a.X d) (a.Z d) d (Fin.cast nCore_zero c) (Fin.cast nSub_zero i)
  td := fun q d c i => match q with | 0 => tileRes (a.C d) (a.X d) (a.Y d) d (Fin.cast nCore_zero c) (Fin.cast nSub_zero i)
  x := fun _ _ => iprop(emp)

instance P_storable : (P (F := F) a).IsStorable where
  st q d c := match q with | 0 => coreRes_storable _ _ _ d (Fin.cast nCore_zero c)
  dn q d c := match q with | 0 => coreRes_storable _ _ _ d (Fin.cast nCore_zero c)
  go q d c i := match q with | 0 => tileRes_storable _ _ _ d (Fin.cast nCore_zero c) (Fin.cast nSub_zero i)
  td q d c i := match q with | 0 => tileRes_storable _ _ _ d (Fin.cast nCore_zero c) (Fin.cast nSub_zero i)

theorem defs₀_tile (c : Fin τ.nSC) (s : Fin τ.nSub) :
    defs₀ (F := F) (.scVector c s) 0 ()
      = SparseCore.onTile hcore0 hsub0 (fun c s => cc0__sc_body (F := F) (tileAt c s)
          imgA (Memref.isWhole_whole _) colA (Memref.isWhole_whole _) outA (Memref.isWhole_whole _)
          colB (Memref.isWhole_whole _) inB (Memref.isWhole_whole _) outB (Memref.isWhole_whole _) cc0_scratch3 cc0_scratch4 cc0_scoped0) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P a) v₀ 0 := by
  intro d c i O W hO _ _
  simp only [show (P a).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body d (tileAt ⟨_, hc.1⟩ ⟨_, hc.2⟩) (a.X d) (a.Z d) (a.C d)
    (piece (coreShare (Fin.cast nCore_zero c)) 15 (Fin.cast nSub_zero i)) facts O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P a) 0 := by
  intro d c
  show coreRes (a.C d) (a.X d) (a.Z d) d (Fin.cast nCore_zero c) ⊢ |={Set.univ}=> iprop(
      (bigSep Finset.univ fun i : Fin ((K (F := F)).nSub 0) =>
        tileRes (a.C d) (a.X d) (a.Z d) d (Fin.cast nCore_zero c) (Fin.cast nSub_zero i))
      ∗ ((bigSep Finset.univ fun i : Fin ((K (F := F)).nSub 0) =>
          tileRes (a.C d) (a.X d) (a.Y d) d (Fin.cast nCore_zero c) (Fin.cast nSub_zero i))
          -∗ coreRes (a.C d) (a.X d) (a.Y d) d (Fin.cast nCore_zero c)))
  rw [bigSep_tasks (F := F) (tileRes (a.C d) (a.X d) (a.Z d) d (Fin.cast nCore_zero c)),
    bigSep_tasks (F := F) (tileRes (a.C d) (a.X d) (a.Y d) d (Fin.cast nCore_zero c)), coreRes_eq, coreRes_eq]
  iintro H; imodintro
  isplitl [H]; · iexact H
  iintro H; iexact H

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P a).x q th) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-- What the call takes, and what it hands back. -/
theorem st0_eq (d : Dev nD) : (bigSep Finset.univ fun c : Fin ((K (F := F)).nCore 0) => (P a).st 0 d c)
    = iprop((colLoc d ↦{fullShare} a.C d) ∗ (imgLoc d ↦{fullShare} a.X d) ∗ outLoc d ↦{fullShare} a.Z d) :=
  (bigSep_cores (coreRes (a.C d) (a.X d) (a.Z d) d)).trans (cores_eq _ _ _ d)
theorem dn0_eq (d : Dev nD) : (bigSep Finset.univ fun c : Fin ((K (F := F)).nCore 0) => (P a).dn 0 d c)
    = iprop((colLoc d ↦{fullShare} a.C d) ∗ (imgLoc d ↦{fullShare} a.X d) ∗ outLoc d ↦{fullShare} a.Y d) :=
  (bigSep_cores (coreRes (a.C d) (a.X d) (a.Y d) d)).trans (cores_eq _ _ _ d)

end Cert.Proof

end
-- ==== Proof.Main.lean ====
/-
  The whole program's run: the colours padded on the TensorCore, the call, and what stands in memory at the end.
-/
module

public import proofs.«01_k».proof.Proof.Launch

@[expose] public section

noncomputable section

namespace Cert.Proof

open Cert.KernelIdeal Cert.KernelIdeal.Gen
open Idealize.ShloMosaic Idealize.ShloMosaic.ValueIdx
open Idealize.ShloMosaic.StableHlo (held held_split held_sdiff_result wp_hlo_within)
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The TensorCore's operations -/

abbrev at0 : DevRef τ sig := Proc.devRef .tc (main_arg0 : Ref sig .tc)
abbrev at1 : DevRef τ sig := Proc.devRef .tc (main_arg1 : Ref sig .tc)
abbrev atCst : DevRef τ sig := Proc.devRef .tc (main_cst : Ref sig .tc)
abbrev atV0 : DevRef τ sig := Proc.devRef .tc (main_v0 : Ref sig .tc)
abbrev atV1 : DevRef τ sig := Proc.devRef .tc (main_v1 : Ref sig .tc)
abbrev atC : DevRef τ sig := Proc.devRef .tc (main_c : Ref sig .tc)
abbrev atV2 : DevRef τ sig := Proc.devRef .tc (main_v2 : Ref sig .tc)
abbrev atV3 : DevRef τ sig := Proc.devRef .tc (main_v3 : Ref sig .tc)
abbrev atV4 : DevRef τ sig := Proc.devRef .tc (main_v4 : Ref sig .tc)

def opZero : HloOp τ sig (Elt F) := StableHlo.nullary main_cst (constant S_ .f32 0x00000000#32)
def opZeros : HloOp τ sig (Elt F) :=
  StableHlo.unary main_cst main_v0 (broadcastInDim S16 ![] bcast_S_S16 : (⟨S_, .f32⟩ : BufTy).Contents (Elt F) → (⟨S16, .f32⟩ : BufTy).Contents (Elt F))
def opFlat : HloOp τ sig (Elt F) := StableHlo.reshape main_arg1 main_v1 (rfl : (.f32 : EltTy) = .f32) shapeCasts_S3x1_S3
def opStart : HloOp τ sig (Elt F) := StableHlo.nullary main_c (constantI S_ 32 0#32)
def opStarts : HloOp τ sig (Elt F) :=
  StableHlo.unary main_c main_v2 (broadcastInDim S1 ![] bcast_S_S1 : (⟨S_, .i32⟩ : BufTy).Contents (Elt F) → (⟨S1, .i32⟩ : BufTy).Contents (Elt F))
def opPad : HloOp τ sig (Elt F) :=
  StableHlo.ternary main_v0 main_v2 main_v1 main_v3 ((fun x i u => Host.scatter scatter_S16_S1_S3_0_n_0_0 (fun _ b => b) x i u) : (⟨S16, .f32⟩ : BufTy).Contents (Elt F) → (⟨S1, .i32⟩ : BufTy).Contents (Elt F) → (⟨S3, .f32⟩ : BufTy).Contents (Elt F) → (⟨S16, .f32⟩ : BufTy).Contents (Elt F))

theorem main_eq (d : Dev nD) : main (F := F) d = (do
    hlo rfl opZero (fun _ => .ret ⟨⟩)
    hlo rfl opZeros (fun _ => .ret ⟨⟩)
    hlo rfl opFlat (fun _ => .ret ⟨⟩)
    hlo rfl opStart (fun _ => .ret ⟨⟩)
    hlo rfl opStarts (fun _ => .ret ⟨⟩)
    hlo rfl opPad (fun _ => .ret ⟨⟩)
    sc.run d 0
    pure ⟨⟩) := rfl

/-- The colours as the kernel gets them: zeros, the three colours written over the first three. -/
def padded (col : S3x1.Idx → F .f32) : S16.Idx → F .f32 :=
  Host.scatter scatter_S16_S1_S3_0_n_0_0 (fun _ b => b) (broadcastInDim S16 ![] bcast_S_S16 (constant S_ .f32 0x00000000#32))
    (broadcastInDim S1 ![] bcast_S_S1 (constantI S_ 32 0#32)) (shapeCast S3 col shapeCasts_S3x1_S3)

/-- Every array of @main. -/
abbrev AllArrays : Finset (DevRef τ sig) := {at0, at1, atV3, atV4, atCst, atV0, atV1, atC, atV2}

/-- The launch valuation, and the valuation after the six operations. -/
def Vstart (m : (ℓ : Loc nD τ sig) → Buf (Elt F) ℓ) (d : Dev nD) : Valuation τ sig (Elt F) := fun b => m (d, b)
def after (V : Valuation τ sig (Elt F)) : Valuation τ sig (Elt F) :=
  opPad.result (opStarts.result (opStart.result (opFlat.result (opZeros.result (opZero.result V)))))

theorem after_of_ne (V : Valuation τ sig (Elt F)) (r : Ref sig .tc) (h1 : r ≠ main_cst) (h2 : r ≠ main_v0) (h3 : r ≠ main_v1)
    (h4 : r ≠ main_c) (h5 : r ≠ main_v2) (h6 : r ≠ main_v3) : after V (Proc.devRef .tc r) = V (Proc.devRef .tc r) := by
  unfold after opPad opStarts opStart opFlat opZeros opZero
  rw [StableHlo.ternary_result_ne (h := h6), StableHlo.unary_result_ne (h := h5), StableHlo.nullary_result_ne (h := h4),
    StableHlo.reshape_result_ne (h := h3), StableHlo.unary_result_ne (h := h2), StableHlo.nullary_result_ne (h := h1)]

theorem after_v3 (V : Valuation τ sig (Elt F)) : after V atV3 = padded (V at1) := by
  unfold after opPad opStarts opStart opFlat opZeros opZero
  after_results_simp
  rfl

theorem held_all (d : Dev nD) (W : Valuation τ sig (Elt F)) :
    (held (T d) AllArrays W : sProp 𝕄)
      = iprop((imgLoc d ↦{fullShare} W at0) ∗ ((SparseCore.T d).loc main_arg1 ↦{fullShare} W at1) ∗ (colLoc d ↦{fullShare} W atV3)
          ∗ (outLoc d ↦{fullShare} W atV4) ∗ held (T d) {atCst, atV0, atV1, atC, atV2} W) := by
  unfold held
  rw [show AllArrays = insert at0 (insert at1 (insert atV3 (insert atV4 {atCst, atV0, atV1, atC, atV2}))) from rfl,
    SparseCore.bigSep_insert' (by decide), SparseCore.bigSep_insert' (by decide), SparseCore.bigSep_insert' (by decide),
    SparseCore.bigSep_insert' (by decide)]

variable (m : (ℓ : Loc nD τ sig) → Buf (Elt F) ℓ) (ρ : Dev nD → PrngReg)

theorem unscoped_held (d : Dev nD) :
    (unscopedBufs d (fun b => m ((SparseCore.T d).loc b)) : sProp 𝕄) = held (T d) AllArrays (Vstart m d) := by
  unfold unscopedBufs held
  rw [show (Finset.univ.filter fun b : Ref sig .tc => ¬ b.isScoped)
      = {main_arg0, main_arg1, main_v3, main_v4, main_cst, main_v0, main_v1, main_c, main_v2} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem sub_zero : (opZero (F := F)).bufs ⊆ AllArrays := show ({atCst} : Finset (DevRef τ sig)) ⊆ AllArrays by decide
theorem sub_zeros : (opZeros (F := F)).bufs ⊆ AllArrays := show ({atCst, atV0} : Finset (DevRef τ sig)) ⊆ AllArrays by decide
theorem sub_flat : (opFlat (F := F)).bufs ⊆ AllArrays := show ({at1, atV1} : Finset (DevRef τ sig)) ⊆ AllArrays by decide
theorem sub_start : (opStart (F := F)).bufs ⊆ AllArrays := show ({atC} : Finset (DevRef τ sig)) ⊆ AllArrays by decide
theorem sub_starts : (opStarts (F := F)).bufs ⊆ AllArrays := show ({atC, atV2} : Finset (DevRef τ sig)) ⊆ AllArrays by decide
theorem sub_pad : (opPad (F := F)).bufs ⊆ AllArrays := show ({atV0, atV2, atV1, atV3} : Finset (DevRef τ sig)) ⊆ AllArrays by decide

/-! ## The run -/

/-- What the call is given. -/
def argsOf : Args F where
  C d := padded (m ((SparseCore.T d).loc main_arg1))
  X d := m (imgLoc d)
  Z d := m (outLoc d)

/-- The picture and the colours unchanged, the result as computed. -/
abbrev FIN (d : Dev nD) : sProp 𝕄 :=
  iprop((imgLoc d ↦{fullShare} m (imgLoc d)) ∗ ((SparseCore.T d).loc main_arg1 ↦{fullShare} m ((SparseCore.T d).loc main_arg1))
    ∗ outLoc d ↦{fullShare} (argsOf m).Y d)

theorem held_after (d : Dev nD) :
    (held (T d) AllArrays
        (opPad.result (opStarts.result (opStart.result (opFlat.result (opZeros.result (opZero.result (Vstart m d))))))) : sProp 𝕄)
      = iprop((imgLoc d ↦{fullShare} m (imgLoc d)) ∗ ((SparseCore.T d).loc main_arg1 ↦{fullShare} m ((SparseCore.T d).loc main_arg1))
          ∗ (colLoc d ↦{fullShare} (argsOf m).C d) ∗ (outLoc d ↦{fullShare} m (outLoc d))
          ∗ held (T d) {atCst, atV0, atV1, atC, atV2} (after (Vstart m d))) := by
  show (held (T d) AllArrays (after (Vstart m d)) : sProp 𝕄) = _
  rw [held_all, after_v3, after_of_ne _ main_arg0 (by decide) (by decide) (by decide) (by decide) (by decide) (by decide),
    after_of_ne _ main_arg1 (by decide) (by decide) (by decide) (by decide) (by decide) (by decide),
    after_of_ne _ main_v4 (by decide) (by decide) (by decide) (by decide) (by decide) (by decide)]
  rfl

theorem hmain (κ : GSem nD τ sig → ℕ) (d : Dev nD) :
    iprop((K (F := F)).ctx EH (P (argsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  simp only [wp_bind, wp_pure]
  iintro ⟨#Hctx, Hst, ⟨Hb, Hheld, Hts, -⟩, -⟩
  iapply (wp_hlo_within 𝒱 (SparseCore.T d) none Set.univ (op := opZero) (S := AllArrays) sub_zero (V := Vstart m d)) $$ [Hb Hheld]
  · isplitl [Hb] <;> iassumption
  iintro ⟨Hb, Hheld⟩; rw [wp_ret]; imodintro
  iapply (wp_hlo_within 𝒱 (SparseCore.T d) none Set.univ (op := opZeros) (S := AllArrays) sub_zeros) $$ [Hb Hheld]
  · isplitl [Hb] <;> iassumption
  iintro ⟨Hb, Hheld⟩; rw [wp_ret]; imodintro
  iapply (wp_hlo_within 𝒱 (SparseCore.T d) none Set.univ (op := opFlat) (S := AllArrays) sub_flat) $$ [Hb Hheld]
  · isplitl [Hb] <;> iassumption
  iintro ⟨Hb, Hheld⟩; rw [wp_ret]; imodintro
  iapply (wp_hlo_within 𝒱 (SparseCore.T d) none Set.univ (op := opStart) (S := AllArrays) sub_start) $$ [Hb Hheld]
  · isplitl [Hb] <;> iassumption
  iintro ⟨Hb, Hheld⟩; rw [wp_ret]; imodintro
  iapply (wp_hlo_within 𝒱 (SparseCore.T d) none Set.univ (op := opStarts) (S := AllArrays) sub_starts) $$ [Hb Hheld]
  · isplitl [Hb] <;> iassumption
  iintro ⟨Hb, Hheld⟩; rw [wp_ret]; imodintro
  iapply (wp_hlo_within 𝒱 (SparseCore.T d) none Set.univ (op := opPad) (S := AllArrays) sub_pad) $$ [Hb Hheld]
  · isplitl [Hb] <;> iassumption
  iintro ⟨Hb, Hheld⟩; rw [wp_ret]; imodintro
  ihave Hh := (Entails.of_eq (held_after (F := F) m d)) $$ Hheld
  icases Hh with ⟨Hx, Ha, Hc, Hz, -⟩
  iapply ((K (F := F)).wp_run (D (F := F)) 𝒱 (EH := EH) (P := P (argsOf m)) κ d 0) $$ [Hst Hx Hc Hz Ha Hb Hts]
  isplitr; · iexact Hctx
  isplitl [Hst]; · iexact Hst
  isplitl [Hx Hc Hz]
  · rw [st0_eq]
    isplitl [Hc]; · iexact Hc
    isplitl [Hx]; · iexact Hx
    iexact Hz
  iintro ⟨Hst, Hdn⟩
  ihave Hdn' := (Entails.of_eq (dn0_eq (argsOf m) d)) $$ Hdn
  icases Hdn' with ⟨-, Hx, Hy⟩
  imodintro
  isplitl [Hst]; · iexact Hst
  isplitr [Hb Hts]
  · isplitl [Hx]; · iexact Hx
    isplitl [Ha]; · iexact Ha
    iexact Hy
  isplitl [Hb] <;> iassumption

def fq (d : Dev nD) (s' : Phys nD τ sig (Elt F)) : Prop :=
  s'.mem.mem (imgLoc d) = m (imgLoc d) ∧ s'.mem.mem ((SparseCore.T d).loc main_arg1) = m ((SparseCore.T d).loc main_arg1)
    ∧ s'.mem.mem (outLoc d) = (argsOf m).Y d

theorem hfin (d : Dev nD) (s' : Phys nD τ sig (Elt F)) : iprop(FIN m d ∗ SI s') ⊢ (⌜fq m d s'⌝ : sProp 𝕄) := by
  iintro ⟨⟨Hx, Ha, Hy⟩, HSI⟩
  ihave H := (persistent_entails_right (SI_pointsTo_agree (st := s') (ℓ := imgLoc d) (I := Finset.univ) (q := fullShare) (f := m (imgLoc d)))) $$ [HSI Hx]
  · isplitl [HSI] <;> iassumption
  icases H with ⟨%h1, HSI, -⟩
  ihave H := (persistent_entails_right (SI_pointsTo_agree (st := s') (ℓ := (SparseCore.T d).loc main_arg1) (I := Finset.univ) (q := fullShare)
    (f := m ((SparseCore.T d).loc main_arg1)))) $$ [HSI Ha]
  · isplitl [HSI] <;> iassumption
  icases H with ⟨%h2, HSI, -⟩
  ihave H := (SI_pointsTo_agree (st := s') (ℓ := outLoc d) (I := Finset.univ) (q := fullShare) (f := (argsOf m).Y d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-- At the end: arguments unchanged, the result the picture shaded by the three colours, every semaphore at zero. -/
def QC : PUnit × MemSt nD τ sig (Elt F) → Prop := fun r =>
  (∀ d : Dev nD, r.2.mem (imgLoc d) = m (imgLoc d) ∧ r.2.mem ((SparseCore.T d).loc main_arg1) = m ((SparseCore.T d).loc main_arg1)
    ∧ r.2.mem (outLoc d) = (argsOf m).Y d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (argsOf m)) (A := ∅) facts v₀
    (fun q hq => match q with | 0 => nomatch hq)
    (fun q _ => match q with | 0 => tileObl (argsOf m))
    (fun q _ => match q with | 0 => SparseCore.Cfg.VecSplit.of_plain (vecSplit (argsOf m)))
    m ρ main (fun _ => iprop(emp)) (FIN m) (u₀ (F := F)) (sep_elim_left.trans (hu₀ (argsOf m))) (hmain m ρ) (fq m) (hfin m) (QC m)
    (fun _ h hz => ⟨h, hz⟩)

end Cert.Proof

end
-- ==== Proof.Frames.lean ====
/-
  The frames: both readings of the kernel run, leave their arguments as they were and end with every semaphore at zero.
-/
module

public import proofs.«01_k».proof.Proof.Main
public import proofs.«01_k».proof.Proof.Gen.Kernel

@[expose] public section

noncomputable section

namespace Cert.Proof

open Idealize.ShloMosaic Idealize.SL.Sem

theorem frame_KernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_KernelIdeal_pre [Cert.Pre_finite_and_lit.Facts] : Cert.quiescent_KernelIdeal_pre_finite_and_lit := fun m ρ _ =>
  frame_KernelIdeal m ρ trivial

theorem frame_Kernel : Cert.quiescent_Kernel := fun m ρ _ =>
  (θ_run Cert.KernelIdeal.defs _ _).mono (fun _ h => ⟨fun c => ⟨(h.1 c).1, (h.1 c).2.1⟩, h.2⟩) (run_main (F := Bits) m ρ)

end Cert.Proof

end
-- ==== Proof.Blend.lean ====
/-
  The arithmetic at one pixel over the extended reals. `shade_ideal`: on real channels whose squared length is at least the
  guard, the kernel's `shade` is `tinted`, the reference's arithmetic in the reals.
-/
module

public import proofs.«01_k».proof.Proof.Pixels
public import Idealize.ShloMosaic.Lib.Pointwise

@[expose] public section

noncomputable section

namespace Cert.Proof

open Idealize.ShloMosaic

/-! ## The constants -/

theorem quarter_ideal : Ideal.ofBits .f32 0x3E800000#32 = ((1 / 4 : ℝ) : EReal) := by
  simp [Ideal.ofBits, Ideal.ieee, -EReal.coe_mul]; norm_num

theorem half_ideal : Ideal.ofBits .f32 0x3F000000#32 = ((1 / 2 : ℝ) : EReal) := by
  simp [Ideal.ofBits, Ideal.ieee, -EReal.coe_mul]; norm_num

theorem threeHalves_ideal : Ideal.ofBits .f32 0x3FC00000#32 = ((3 / 2 : ℝ) : EReal) := by
  simp [Ideal.ofBits, Ideal.ieee, -EReal.coe_mul]; norm_num

theorem four_ideal : Ideal.ofBits .f32 0x40800000#32 = ((4 : ℝ) : EReal) := by
  simp [Ideal.ofBits, Ideal.ieee, -EReal.coe_mul]; norm_num

theorem infinity_ideal : Ideal.ofBits .f32 0x7F800000#32 = ⊤ := by
  simp [Ideal.ofBits, Ideal.ieee]

/-- The guard under the square root, a positive real. -/
def guard : ℝ := (2 ^ 23 + 2245216 : ℝ) * 2 ^ (-123 : ℤ)

theorem guard_pos : 0 < guard := by unfold guard; positivity

theorem guard_ideal : Ideal.ofBits .f32 0x0DA24260#32 = ((guard : ℝ) : EReal) := by
  simp [Ideal.ofBits, Ideal.ieee, guard, -EReal.coe_mul]; norm_num

/-! ## The blend in the reals -/

/-- The share of a dark pixel that stays. -/
def share (r g b : ℝ) : ℝ := min (1 / 4) (max 0 (√(r * r + g * g + b * b))) / (1 / 4)

/-- The reference's value of one channel. -/
def tinted (c x r g b : ℝ) : ℝ :=
  if r < 1 / 4 ∧ g < 1 / 4 ∧ b < 1 / 4 then x * share r g b + c * (1 - share r g b) else x

/-- The smaller of two reals. -/
theorem min_ideal (x y : ℝ) : min (x : EReal) (y : EReal) = ((min x y : ℝ) : EReal) := (EReal.coe_strictMono.monotone.map_min).symm

/-- The greater of two reals. -/
theorem max_ideal (x y : ℝ) : max (x : EReal) (y : EReal) = ((max x y : ℝ) : EReal) := (EReal.coe_strictMono.monotone.map_max).symm

/-- The comparison of two reals. -/
theorem olt_ideal (x y : ℝ) : Ideal.cmp .olt (x : EReal) (y : EReal) = BitVec.ofBool (decide (x < y)) := by
  rw [Ideal.cmp_olt]; congr 1; simp [EReal.coe_lt_coe_iff]

theorem dark_ideal (r g b : ℝ) :
    dark (F := Ideal) (r : EReal) (g : EReal) (b : EReal) = BitVec.ofBool (decide (r < 1 / 4 ∧ g < 1 / 4 ∧ b < 1 / 4)) := by
  show IntOp.andi (IntOp.andi (Ideal.cmp .olt (r : EReal) (Ideal.ofBits .f32 0x3E800000#32)) (Ideal.cmp .olt (g : EReal) (Ideal.ofBits .f32 0x3E800000#32)))
    (Ideal.cmp .olt (b : EReal) (Ideal.ofBits .f32 0x3E800000#32)) = _
  rw [quarter_ideal, olt_ideal, olt_ideal, olt_ideal]
  by_cases hr : r < 1 / 4 <;> by_cases hg : g < 1 / 4 <;> by_cases hb : b < 1 / 4 <;>
    simp only [hr, hg, hb, and_self, and_true, and_false, true_and, false_and, decide_true, decide_false] <;> rfl

theorem lengthSq_ideal (r g b : ℝ) (h : guard ≤ r * r + g * g + b * b) :
    lengthSq (F := Ideal) (r : EReal) (g : EReal) (b : EReal) = ((r * r + g * g + b * b : ℝ) : EReal) := by
  show max ((r : EReal) * r + g * g + b * b) (Ideal.ofBits .f32 0x0DA24260#32) = _
  rw [guard_ideal, ← EReal.coe_mul, ← EReal.coe_mul, ← EReal.coe_mul, ← EReal.coe_add, ← EReal.coe_add]
  exact max_eq_left (EReal.coe_le_coe_iff.mpr h)

theorem rsqrt_ideal (q : ℝ) (h : 0 < q) : Ideal.rsqrt (q : EReal) = (((√q)⁻¹ : ℝ) : EReal) := by
  rw [Ideal.rsqrt_coe, if_neg (not_lt.mpr h.le), if_neg h.ne']

/-- The Newton step leaves the exact reciprocal root alone. -/
theorem lengthOf_ideal (q : ℝ) (h : 0 < q) :
    lengthOf (F := Ideal) (q : EReal) (((√q)⁻¹ : ℝ) : EReal) = ((√q : ℝ) : EReal) := by
  show (q : EReal) * ((((√q)⁻¹ : ℝ) : EReal) * (Ideal.ofBits .f32 0x3FC00000#32
    - Ideal.ofBits .f32 0x3F000000#32 * (q : EReal) * (((√q)⁻¹ : ℝ) : EReal) * (((√q)⁻¹ : ℝ) : EReal))) = _
  rw [threeHalves_ideal, half_ideal]
  norm_cast
  have hs : 0 < √q := Real.sqrt_pos.mpr h
  have hq : q = √q * √q := (Real.mul_self_sqrt h.le).symm
  generalize √q = s at hs hq
  subst hq
  field_simp
  norm_num

theorem share_eq (r g b : ℝ) : share r g b = min (√(r * r + g * g + b * b)) (1 / 4) * 4 := by
  unfold share
  rw [max_eq_right (Real.sqrt_nonneg _), min_comm]
  ring

theorem opacity_ideal (r g b : ℝ) (h : guard ≤ r * r + g * g + b * b) :
    opacity (F := Ideal) (r : EReal) (g : EReal) (b : EReal)
      = ((if r < 1 / 4 ∧ g < 1 / 4 ∧ b < 1 / 4 then share r g b else 1 : ℝ) : EReal) := by
  have hpos : 0 < r * r + g * g + b * b := guard_pos.trans_le h
  show Scalar.select (dark (F := Ideal) (r : EReal) (g : EReal) (b : EReal))
    (min (lengthOf (F := Ideal) (lengthSq (F := Ideal) (r : EReal) (g : EReal) (b : EReal))
      (Ideal.rsqrt (lengthSq (F := Ideal) (r : EReal) (g : EReal) (b : EReal)))) (Ideal.ofBits .f32 0x3E800000#32)
        * Ideal.ofBits .f32 0x40800000#32) (Ideal.ofBits .f32 0x3F800000#32) = _
  rw [dark_ideal, lengthSq_ideal r g b h, rsqrt_ideal _ hpos, lengthOf_ideal _ hpos, quarter_ideal, four_ideal,
    Ideal.ofBits_one_f32, min_ideal, ← EReal.coe_mul, share_eq]
  by_cases hd : r < 1 / 4 ∧ g < 1 / 4 ∧ b < 1 / 4
  · rw [if_pos hd, decide_eq_true hd]; rfl
  · rw [if_neg hd, decide_eq_false hd]; rfl

/-- The kernel's blend is the reference's, on real channels at least as long as the guard. -/
theorem shade_ideal (c x r g b : ℝ) (h : guard ≤ r * r + g * g + b * b) :
    shade (F := Ideal) (c : EReal) (x : EReal) (r : EReal) (g : EReal) (b : EReal) = ((tinted c x r g b : ℝ) : EReal) := by
  show opacity (F := Ideal) (r : EReal) (g : EReal) (b : EReal) * ((x : EReal) - c) + c = _
  rw [opacity_ideal r g b h, ← EReal.coe_sub, ← EReal.coe_mul, ← EReal.coe_add]
  unfold tinted
  split
  · congr 1; ring
  · congr 1; ring

/-! ## The reference's arithmetic at one pixel -/

/-- The reference's operations on real channels come to `tinted`. -/
theorem reference_ideal (c x r g b : ℝ) :
    Scalar.select (IntOp.andi (Ideal.cmp .olt (r : EReal) ((1 / 4 : ℝ) : EReal)) (IntOp.andi (Ideal.cmp .olt (g : EReal) ((1 / 4 : ℝ) : EReal))
        (Ideal.cmp .olt (b : EReal) ((1 / 4 : ℝ) : EReal))))
      ((x : EReal) * Ideal.div (min ((1 / 4 : ℝ) : EReal) (max 0 (Ideal.sqrt ((r : EReal) * r + g * g + b * b)))) ((1 / 4 : ℝ) : EReal)
        + c * (1 - Ideal.div (min ((1 / 4 : ℝ) : EReal) (max 0 (Ideal.sqrt ((r : EReal) * r + g * g + b * b)))) ((1 / 4 : ℝ) : EReal)))
      (x : EReal) = ((tinted c x r g b : ℝ) : EReal) := by
  have hn : 0 ≤ r * r + g * g + b * b := add_nonneg (add_nonneg (mul_self_nonneg r) (mul_self_nonneg g)) (mul_self_nonneg b)
  have ha : Ideal.div (min ((1 / 4 : ℝ) : EReal) (max 0 (Ideal.sqrt ((r : EReal) * r + g * g + b * b)))) ((1 / 4 : ℝ) : EReal)
      = ((share r g b : ℝ) : EReal) := by
    rw [← EReal.coe_mul, ← EReal.coe_mul, ← EReal.coe_mul, ← EReal.coe_add, ← EReal.coe_add, Ideal.sqrt_coe,
      if_neg (not_lt.mpr hn), ← EReal.coe_zero, max_ideal, min_ideal, Ideal.div_coe (by norm_num), ← EReal.coe_mul]
    congr 1
    unfold share
    ring
  rw [ha, ← EReal.coe_one, ← EReal.coe_sub, ← EReal.coe_mul, ← EReal.coe_mul, ← EReal.coe_add, olt_ideal, olt_ideal, olt_ideal]
  unfold tinted
  by_cases hr : r < 1 / 4 <;> by_cases hg : g < 1 / 4 <;> by_cases hb : b < 1 / 4 <;>
    simp only [hr, hg, hb, and_self, and_true, and_false, true_and, false_and, decide_true, decide_false, if_true, if_false] <;> rfl

/-! ## Real values -/

/-- A value whose absolute value lies below infinity is a real. -/
theorem real_of_abs_lt (x : EReal) (h : Ideal.cmp .olt (max x (-x)) (Ideal.ofBits .f32 0x7F800000#32) = 1#1) : ∃ r : ℝ, x = (r : EReal) := by
  rw [infinity_ideal] at h
  have h := (Ideal.cmp_olt_eq_one _ _).mp h
  induction x using EReal.rec with
  | bot => exact absurd h (by simp)
  | top => exact absurd h (by simp)
  | coe r => exact ⟨r, rfl⟩

end Cert.Proof

end
-- ==== Proof.Reference.lean ====
/-
  The reference's run. `referencePic` is its result as one term of its arguments; `run_reference`: it ends with that result,
  its arguments as they were.
-/
module

public import proofs.«01_k».proof.Proof.Gen.ReferenceIdeal
public import Idealize.ShloMosaic.Lib.StableHlo.Run

@[expose] public section

noncomputable section

namespace Cert.Proof

open Cert.ReferenceIdeal Cert.ReferenceIdeal.Gen
open Idealize.ShloMosaic Idealize.ShloMosaic.TcCoe Idealize.SL.Sem Idealize.ShloMosaic.StableHlo

variable {F : FTy → Type} [FloatOps F]

/-- The reference's opacity, one for all channels. -/
def referenceShare (X : FVec F S3x2048x2048 .f32) : FVec F S2048x2048 .f32 :=
  Host.divf (minimumf (broadcastInDim S2048x2048 ![] bcast_S_S2048x2048 (id (constant S_ .f32 0x3E800000#32)))
    (maximumf (broadcastInDim S2048x2048 ![] bcast_S_S2048x2048 (id (constant S_ .f32 0x00000000#32)))
      (Host.sqrt (Host.reduceAdd (mulf X X) (constant S_ .f32 0x00000000#32) reducesTo_S3x2048x2048_S2048x2048_d0 h_S_))))
    (broadcastInDim S2048x2048 ![] bcast_S_S2048x2048 (constant S_ .f32 0x3E800000#32))

/-- The blended picture, undisturbed where some channel is a quarter or more. -/
def referenceBlend (X : FVec F S3x2048x2048 .f32) (col : FVec F S3x1 .f32) : FVec F S3x2048x2048 .f32 :=
  select (broadcastInDim S3x2048x2048 ![0, 1, 2] bcast_S1x2048x2048_S3x2048x2048_0_1_2 (broadcastInDim S1x2048x2048 ![1, 2] bcast_S2048x2048_S1x2048x2048_1_2
      (Host.reduce IntOp.andi (cmpf .olt X (broadcastInDim S3x2048x2048 ![] bcast_S_S3x2048x2048 (constant S_ .f32 0x3E800000#32))) (constantI S_ 1 1#1)
        reducesTo_S3x2048x2048_S2048x2048_d0 h_S_)))
    (addf (mulf X (broadcastInDim S3x2048x2048 ![0, 1, 2] bcast_S1x2048x2048_S3x2048x2048_0_1_2
        (broadcastInDim S1x2048x2048 ![1, 2] bcast_S2048x2048_S1x2048x2048_1_2 (referenceShare X))))
      (mulf (broadcastInDim S3x2048x2048 ![0, 1, 2] bcast_S3x1x1_S3x2048x2048_0_1_2 (shapeCast _ col shapeCasts_S3x1_S3x1x1))
        (broadcastInDim S3x2048x2048 ![0, 1, 2] bcast_S1x2048x2048_S3x2048x2048_0_1_2
          (subf (broadcastInDim S1x2048x2048 ![] bcast_S_S1x2048x2048 (constant S_ .f32 0x3F800000#32))
            (broadcastInDim S1x2048x2048 ![1, 2] bcast_S2048x2048_S1x2048x2048_1_2 (referenceShare X))))))
    X

/-- The reference's result: the blended picture written over the whole of the first. -/
def referencePic (X : FVec F S3x2048x2048 .f32) (col : FVec F S3x1 .f32) : FVec F S3x2048x2048 .f32 :=
  Host.scatter scatter_S3x2048x2048_S0_S3x2048x2048_012_n_n_0 (fun _ b => b) X (emptyVec S0 hz_S0 : IVec S0 32) (referenceBlend X col)

/-- The reference's operations in order. -/
abbrev referenceOps : List (HloOp τ sig (Elt F)) :=
  [ nullary main_c (emptyVec S0 hz_S0),
    nullary main_cst (constant S_ .f32 0x3E800000#32),
    unary main_cst main_v0 (broadcastInDim S3x2048x2048 ![] bcast_S_S3x2048x2048 : (⟨S_, .f32⟩ : BufTy).Contents (Elt F) → (⟨S3x2048x2048, .f32⟩ : BufTy).Contents (Elt F)),
    binary main_arg0 main_v0 main_v1 (cmpf .olt : (⟨S3x2048x2048, .f32⟩ : BufTy).Contents (Elt F) → (⟨S3x2048x2048, .f32⟩ : BufTy).Contents (Elt F) → (⟨S3x2048x2048, .i1⟩ : BufTy).Contents (Elt F)),
    nullary main_c_0 (constantI S_ 1 1#1),
    binary main_v1 main_c_0 main_v2 ((fun x v => Host.reduce IntOp.andi x v reducesTo_S3x2048x2048_S2048x2048_d0 h_S_) : (⟨S3x2048x2048, .i1⟩ : BufTy).Contents (Elt F) → (⟨S_, .i1⟩ : BufTy).Contents (Elt F) → (⟨S2048x2048, .i1⟩ : BufTy).Contents (Elt F)),
    TRef.binary (TRef.of (T := ⟨S3x2048x2048, .f32⟩) main_arg0) (TRef.of (T := ⟨S3x2048x2048, .f32⟩) main_arg0) (TRef.of (T := ⟨S3x2048x2048, .f32⟩) main_call0_v0) mulf,
    TRef.nullary (TRef.of (T := ⟨S_, .f32⟩) main_call0_cst) (constant S_ .f32 0x00000000#32),
    TRef.binary (TRef.of (T := ⟨S3x2048x2048, .f32⟩) main_call0_v0) (TRef.of (T := ⟨S_, .f32⟩) main_call0_cst) (TRef.of (T := ⟨S2048x2048, .f32⟩) main_call0_v1) (fun x v => Host.reduceAdd x v reducesTo_S3x2048x2048_S2048x2048_d0 h_S_),
    TRef.unary (TRef.of (T := ⟨S2048x2048, .f32⟩) main_call0_v1) (TRef.of (T := ⟨S2048x2048, .f32⟩) main_v3) Host.sqrt,
    nullary main_cst_1 (constant S_ .f32 0x00000000#32),
    nullary main_cst_2 (constant S_ .f32 0x3E800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S2048x2048, .f32⟩) main_call1_v1) (broadcastInDim S2048x2048 ![] bcast_S_S2048x2048),
    TRef.binary (TRef.of (T := ⟨S2048x2048, .f32⟩) main_call1_v1) (TRef.of (T := ⟨S2048x2048, .f32⟩) main_v3) (TRef.of (T := ⟨S2048x2048, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S2048x2048, .f32⟩) main_call1_v4) (broadcastInDim S2048x2048 ![] bcast_S_S2048x2048),
    TRef.binary (TRef.of (T := ⟨S2048x2048, .f32⟩) main_call1_v4) (TRef.of (T := ⟨S2048x2048, .f32⟩) main_call1_v2) (TRef.of (T := ⟨S2048x2048, .f32⟩) main_v4) minimumf,
    nullary main_cst_3 (constant S_ .f32 0x3E800000#32),
    unary main_cst_3 main_v5 (broadcastInDim S2048x2048 ![] bcast_S_S2048x2048 : (⟨S_, .f32⟩ : BufTy).Contents (Elt F) → (⟨S2048x2048, .f32⟩ : BufTy).Contents (Elt F)),
    binary main_v4 main_v5 main_v6 (Host.divf : (⟨S2048x2048, .f32⟩ : BufTy).Contents (Elt F) → (⟨S2048x2048, .f32⟩ : BufTy).Contents (Elt F) → (⟨S2048x2048, .f32⟩ : BufTy).Contents (Elt F)),
    reshape main_arg1 main_v7 (rfl : (.f32 : EltTy) = .f32) shapeCasts_S3x1_S3x1x1,
    unary main_v6 main_v8 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v8 main_v9 (broadcastInDim S3x2048x2048 ![0, 1, 2] bcast_S1x2048x2048_S3x2048x2048_0_1_2 : (⟨S1x2048x2048, .f32⟩ : BufTy).Contents (Elt F) → (⟨S3x2048x2048, .f32⟩ : BufTy).Contents (Elt F)),
    binary main_arg0 main_v9 main_v10 (mulf : (⟨S3x2048x2048, .f32⟩ : BufTy).Contents (Elt F) → (⟨S3x2048x2048, .f32⟩ : BufTy).Contents (Elt F) → (⟨S3x2048x2048, .f32⟩ : BufTy).Contents (Elt F)),
    unary main_v6 main_v11 (broadcastInDim S1x2048x2048 ![1, 2] bcast_S2048x2048_S1x2048x2048_1_2 : (⟨S2048x2048, .f32⟩ : BufTy).Contents (Elt F) → (⟨S1x2048x2048, .f32⟩ : BufTy).Contents (Elt F)),
    nullary main_cst_4 (constant S_ .f32 0x3F800000#32),
    unary main_cst_4 main_v12 (broadcastInDim S1x2048x2048 ![] bcast_S_S1x2048x2048 : (⟨S_, .f32⟩ : BufTy).Contents (Elt F) → (⟨S1x2048x2048, .f32⟩ : BufTy).Contents (Elt F)),
    binary main_v12 main_v11 main_v13 (subf : (⟨S1x2048x2048, .f32⟩ : BufTy).Contents (Elt F) → (⟨S1x2048x2048, .f32⟩ : BufTy).Contents (Elt F) → (⟨S1x2048x2048, .f32⟩ : BufTy).Contents (Elt F)),
    unary main_v7 main_v14 (broadcastInDim S3x2048x2048 ![0, 1, 2] bcast_S3x1x1_S3x2048x2048_0_1_2 : (⟨S3x1x1, .f32⟩ : BufTy).Contents (Elt F) → (⟨S3x2048x2048, .f32⟩ : BufTy).Contents (Elt F)),
    unary main_v13 main_v15 (broadcastInDim S3x2048x2048 ![0, 1, 2] bcast_S1x2048x2048_S3x2048x2048_0_1_2 : (⟨S1x2048x2048, .f32⟩ : BufTy).Contents (Elt F) → (⟨S3x2048x2048, .f32⟩ : BufTy).Contents (Elt F)),
    binary main_v14 main_v15 main_v16 (mulf : (⟨S3x2048x2048, .f32⟩ : BufTy).Contents (Elt F) → (⟨S3x2048x2048, .f32⟩ : BufTy).Contents (Elt F) → (⟨S3x2048x2048, .f32⟩ : BufTy).Contents (Elt F)),
    binary main_v10 main_v16 main_v17 (addf : (⟨S3x2048x2048, .f32⟩ : BufTy).Contents (Elt F) → (⟨S3x2048x2048, .f32⟩ : BufTy).Contents (Elt F) → (⟨S3x2048x2048, .f32⟩ : BufTy).Contents (Elt F)),
    unary main_v2 main_v18 (broadcastInDim S1x2048x2048 ![1, 2] bcast_S2048x2048_S1x2048x2048_1_2 : (⟨S2048x2048, .i1⟩ : BufTy).Contents (Elt F) → (⟨S1x2048x2048, .i1⟩ : BufTy).Contents (Elt F)),
    TRef.unary (TRef.of (T := ⟨S1x2048x2048, .i1⟩) main_v18) (TRef.of (T := ⟨S3x2048x2048, .i1⟩) main_call2_v0) (broadcastInDim S3x2048x2048 ![0, 1, 2] bcast_S1x2048x2048_S3x2048x2048_0_1_2),
    TRef.ternary (TRef.of (T := ⟨S3x2048x2048, .i1⟩) main_call2_v0) (TRef.of (T := ⟨S3x2048x2048, .f32⟩) main_v17) (TRef.of (T := ⟨S3x2048x2048, .f32⟩) main_arg0) (TRef.of (T := ⟨S3x2048x2048, .f32⟩) main_v19) select,
    ternary main_arg0 main_c main_v19 main_v20 ((fun x i u => Host.scatter scatter_S3x2048x2048_S0_S3x2048x2048_012_n_n_0 (fun _ b => b) x i u) : (⟨S3x2048x2048, .f32⟩ : BufTy).Contents (Elt F) → (⟨S0, .i32⟩ : BufTy).Contents (Elt F) → (⟨S3x2048x2048, .f32⟩ : BufTy).Contents (Elt F) → (⟨S3x2048x2048, .f32⟩ : BufTy).Contents (Elt F)) ]

theorem referenceOps_bufs : (referenceOps (F := F)).Forall fun op => op.bufs ⊆ tcRefs τ sig := by
  simp only [referenceOps, List.forall_cons, TRef.binary, TRef.nullary, TRef.ternary, TRef.unary, nullary_bufs_sub, unary_bufs_sub, binary_bufs_sub,
    ternary_bufs_sub, reshape_bufs_sub, List.Forall, and_self]

set_option maxHeartbeats 2000000 in
/-- The reference ends with `referencePic` of its arguments, which it leaves as they were. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = referencePic (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v20).trans ?_, (h c main_arg0).trans ?_, (h c main_arg1).trans ?_⟩)
    (run_seq (by decide) (by decide) defs main (fun _ => referenceOps) (fun _ => rfl) (fun _ => referenceOps_bufs) m ρ)
  all_goals
    simp only [referenceOps, TRef.binary, TRef.nullary, TRef.ternary, TRef.unary, TRef.toBuf, TRef.ofBuf, cast_eq]
    after_results_simp <;> rfl

end Cert.Proof

end
-- ==== Proof.Reading.lean ====
/-
  The operands and results read at one place: `colours_padded`, the kernel's colour operand at a channel;
  `referencePic_eq`, the reference's result is its blended picture; `referenceShare_apply` and `referenceBlend_apply`,
  the blend's weight and the blended picture at a pixel of channel `ch`.
-/
module

public import proofs.«01_k».proof.Proof.Main
public import proofs.«01_k».proof.Proof.Reference
public import Idealize.ShloMosaic.Lib.Routing.OpsSet
public import Idealize.ShloMosaic.Lib.Routing.OpsPair
public import Idealize.ShloMosaic.Lib.Pointwise

@[expose] public section

noncomputable section

namespace Cert.Proof

open Idealize.ShloMosaic Idealize.ShloMosaic.Routing

/-! ## The kernel's colour operand -/

section Padded

open Cert.KernelIdeal Cert.KernelIdeal.Gen

/-- Colour `k` of three lands at place `k` of sixteen. -/
theorem colour_lands (k : S3.Idx) (e : Fin 16) :
    scatter_S16_S1_S3_0_n_0_0.resultIdx? k (broadcastInDim S1 ![] bcast_S_S1 (constantI S_ 32 0#32)) = some (ValueIdx.ix1 e) ↔ (k 0).val = e.val := by
  rw [resultIdx?_ix1]
  have hs : scatter_S16_S1_S3_0_n_0_0.start k (broadcastInDim S1 ![] bcast_S_S1 (constantI S_ 32 0#32)) 0 = 0 := rfl
  have hw : scatter_S16_S1_S3_0_n_0_0.window k 0 = (k 0).val := rfl
  rw [hs, hw]
  omega

/-- The first three places hold the colour. -/
theorem colours_padded {F : FTy → Type} [FloatOps F] (col : S3x1.Idx → F .f32) (ch : Fin 3) :
    colours (padded col) ch = col (ValueIdx.ix2 ch (0 : Fin 1)) := by
  unfold colours padded
  refine scatter_set_hit _ _ _ _ _ _ (fun k hk => ?_) (ValueIdx.ix1 ch) ((colour_lands _ _).mpr rfl)
  have h := (colour_lands k _).mp hk
  have hk : k = ValueIdx.ix1 ch := by rw [ValueIdx.eq_ix1 k]; exact congrArg ValueIdx.ix1 (Fin.ext h)
  subst hk
  pointwise
  rw [ix2_eq_valueIdx]

end Padded

/-! ## The reference's result -/

section Reference

open Cert.ReferenceIdeal Cert.ReferenceIdeal.Gen

/-- Every pixel is written at its own place. -/
theorem pixel_lands (k p : S3x2048x2048.Idx) :
    scatter_S3x2048x2048_S0_S3x2048x2048_012_n_n_0.resultIdx? k (emptyVec S0 hz_S0 : IVec S0 32) = some p ↔ k = p := by
  rw [resultIdx?_eq_some]
  have hs : ∀ a, scatter_S3x2048x2048_S0_S3x2048x2048_012_n_n_0.start k (emptyVec S0 hz_S0 : IVec S0 32) a = 0 := fun a => dif_neg List.not_mem_nil
  have hw : ∀ a, scatter_S3x2048x2048_S0_S3x2048x2048_012_n_n_0.window k a = (k a).val := fun a => by
    match a with
    | ⟨0, _⟩ => rfl
    | ⟨1, _⟩ => rfl
    | ⟨2, _⟩ => rfl
  constructor
  · intro h
    funext a
    have := h a
    rw [hs, hw] at this
    exact Fin.ext (by omega)
  · rintro rfl a
    rw [hs, hw]
    omega

theorem referencePic_eq (X : FVec Ideal S3x2048x2048 .f32) (col : FVec Ideal S3x1 .f32) (p : S3x2048x2048.Idx) :
    referencePic X col p = referenceBlend X col p :=
  scatter_set_hit _ _ _ _ _ _ (fun k hk => by rw [(pixel_lands k p).mp hk]) p ((pixel_lands p p).mpr rfl)

/-- A conjunction over the three channels. -/
theorem fold_three (f : Fin 3 → BitVec 1) : Finset.fold IntOp.andi 1#1 f Finset.univ = IntOp.andi (f 0) (IntOp.andi (f 1) (f 2)) := by
  have h : (Finset.univ : Finset (Fin 3)) = insert 0 (insert 1 {2}) := by decide
  rw [h, Finset.fold_insert (by decide), Finset.fold_insert (by decide), Finset.fold_singleton]
  generalize f 0 = a, f 1 = b, f 2 = c
  revert a b c
  decide

theorem referenceShare_apply (X : FVec Ideal S3x2048x2048 .f32) (i j : Fin 2048) :
    referenceShare X (ix2 i j)
      = Ideal.div (min (Ideal.ofBits .f32 0x3E800000#32) (max 0 (Ideal.sqrt (X (ix3 0 i j) * X (ix3 0 i j) + X (ix3 1 i j) * X (ix3 1 i j)
          + X (ix3 2 i j) * X (ix3 2 i j))))) (Ideal.ofBits .f32 0x3E800000#32) := by
  unfold referenceShare
  pointwise [id]
  rw [Fin.sum_univ_three]

theorem referenceBlend_apply (X : FVec Ideal S3x2048x2048 .f32) (col : FVec Ideal S3x1 .f32) (ch : Fin 3) (i j : Fin 2048) :
    referenceBlend X col (ix3 ch i j)
      = Scalar.select (IntOp.andi (Ideal.cmp .olt (X (ix3 0 i j)) (Ideal.ofBits .f32 0x3E800000#32))
          (IntOp.andi (Ideal.cmp .olt (X (ix3 1 i j)) (Ideal.ofBits .f32 0x3E800000#32)) (Ideal.cmp .olt (X (ix3 2 i j)) (Ideal.ofBits .f32 0x3E800000#32))))
        (X (ix3 ch i j) * referenceShare X (ix2 i j) + col (ix2 ch (0 : Fin 1)) * (1 - referenceShare X (ix2 i j)))
        (X (ix3 ch i j)) := by
  unfold referenceBlend
  generalize referenceShare X = A
  pointwise
  rw [fold_three]
  rfl

end Reference

end Cert.Proof

end
-- ==== Proof.Value.lean ====
/-
  The results are equal. `pre_reads`: what the precondition says of the arguments, pixel by pixel; `shadePic_eq`: under it
  the kernel's result is the reference's.
-/
module

public import proofs.«01_k».proof.Defs
public import proofs.«01_k».proof.Proof.Blend
public import proofs.«01_k».proof.Proof.Reading
public import Idealize.ShloMosaic.Lib.ReduceAll

@[expose] public section

noncomputable section

namespace Cert.Proof

open Idealize.ShloMosaic

/-! ## The precondition -/

instance preFacts : Cert.Pre_finite_and_lit.Facts where
  slices_S3x2048x2048_S1x2048x2048_0_0_0 := by decide
  shapeCasts_S1x2048x2048_S2048x2048 := by decide
  slices_S3x2048x2048_S1x2048x2048_1_0_0 := by decide
  slices_S3x2048x2048_S1x2048x2048_2_0_0 := by decide
  bcast_S_S2048x2048 := by decide
  reducesTo_S2048x2048_S_d0_1 := by decide
  h_S_ := by decide
  bcast_S_S3x2048x2048 := by decide
  reducesTo_S3x2048x2048_S_d0_1_2 := by decide
  bcast_S_S3x1 := by decide
  reducesTo_S3x1_S_d0_1 := by decide

open Cert.Pre_finite_and_lit

instance : Subsingleton S_.Idx := ⟨fun _ _ => funext fun a => a.elim0⟩

/-- Both operands of a conjunction that holds. -/
theorem and_one {x y : BitVec 1} (h : IntOp.andi x y = 1#1) : x = 1#1 ∧ y = 1#1 := by
  revert x y
  decide

/-- The precondition: every channel and colour is a real, every pixel is as long as the guard. -/
theorem pre_reads (X : FVec Ideal S3x2048x2048 .f32) (col : FVec Ideal S3x1 .f32) (h : fn (F := Ideal) X col = fun _ => 1#1) :
    (∀ p, ∃ x : ℝ, X p = (x : EReal)) ∧ (∀ q, ∃ c : ℝ, col q = (c : EReal))
      ∧ ∀ i j : Fin 2048, Ideal.ofBits .f32 0x0DA24260#32
          ≤ X (ix3 0 i j) * X (ix3 0 i j) + X (ix3 1 i j) * X (ix3 1 i j) + X (ix3 2 i j) * X (ix3 2 i j) := by
  have h := congrFun h ix0
  unfold fn fn_part1 at h
  obtain ⟨h, hlit⟩ := and_one h
  obtain ⟨hX, hcol⟩ := and_one h
  refine ⟨fun p => real_of_abs_lt _ ?_, fun q => real_of_abs_lt _ ?_, fun i j => ?_⟩
  · exact Host.reduce_andi_all _ _ _ _ _ hX p
  · exact Host.reduce_andi_all _ _ _ _ _ hcol q
  · have := Host.reduce_andi_all _ _ _ _ _ hlit (ix2 i j)
    pointwise at this
    exact (Ideal.cmp_oge_eq_one _ _).mp this

/-! ## The results -/

/-- Under the precondition the kernel's picture is the reference's. -/
theorem shadePic_eq (X : FVec Ideal S3x2048x2048 .f32) (col : FVec Ideal S3x1 .f32) (h : fn (F := Ideal) X col = fun _ => 1#1) :
    shadePic (colours (padded (F := Ideal) col)) X = referencePic X col := by
  obtain ⟨hX, hcol, hlit⟩ := pre_reads X col h
  funext p
  obtain ⟨ch, i, j, rfl⟩ : ∃ (ch : Fin 3) (i j : Fin 2048), p = ix3 ch i j := ⟨p 0, p 1, p 2, (ValueIdx.eq_ix3 p).trans (ix3_eq_valueIdx _ _ _).symm⟩
  rw [referencePic_eq, referenceBlend_apply, referenceShare_apply]
  show shade (colours (padded (F := Ideal) col) ch) (X (ix3 ch i j)) (X (ValueIdx.ix3 0 i j)) (X (ValueIdx.ix3 1 i j)) (X (ValueIdx.ix3 2 i j)) = _
  rw [colours_padded, ← ix3_eq_valueIdx, ← ix3_eq_valueIdx, ← ix3_eq_valueIdx, ← ix2_eq_valueIdx]
  have hl := hlit i j
  obtain ⟨c, hc⟩ := hcol (ix2 ch 0)
  obtain ⟨x, hx⟩ := hX (ix3 ch i j)
  obtain ⟨r, hr⟩ := hX (ix3 0 i j)
  obtain ⟨g, hg⟩ := hX (ix3 1 i j)
  obtain ⟨b, hb⟩ := hX (ix3 2 i j)
  rw [hr, hg, hb, guard_ideal, ← EReal.coe_mul, ← EReal.coe_mul, ← EReal.coe_mul, ← EReal.coe_add, ← EReal.coe_add,
    EReal.coe_le_coe_iff] at hl
  rw [hc, hx, hr, hg, hb, quarter_ideal]
  exact (shade_ideal c x r g b hl).trans (reference_ideal c x r g b).symm

end Cert.Proof

end
-- ==== Proof.lean ====
/-
  The certificate's claims, put together from the modules under Proof/: the kernel's run (Main), its frames (Frames), the
  reference's run (Reference) and the equation of the two results (Value).
-/
module

public import proofs.«01_k».proof.Defs
public import proofs.«01_k».proof.Proof.Frames
public import proofs.«01_k».proof.Proof.Value

@[expose] public section

noncomputable section

namespace Cert.Proof

open Idealize.ShloMosaic Idealize.SL.Sem

/-- The reference's frame; it declares no semaphore. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩) (run_reference (F := Ideal) m ρ)

theorem frame_ReferenceIdeal_pre : Cert.quiescent_ReferenceIdeal_pre_finite_and_lit := fun m ρ _ =>
  frame_ReferenceIdeal m ρ trivial

/-- Kernel and reference end with the same picture. -/
theorem algebraic : Cert.algebraic_KernelIdeal_ReferenceIdeal_pre_finite_and_lit := by
  intro m ρ m' ρ' hpre hagree
  refine ⟨fun c => (argsOf m).Y c, ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun _ h c => ⟨(h c).1.trans ?_, (h c).2⟩) (run_reference (F := Ideal) m' ρ')
    rw [(hagree c).1, (hagree c).2]
    exact (shadePic_eq _ _ (hpre c)).symm

theorem claim : Cert.Claim :=
  ⟨Cert.Kernel.Gen.facts, Cert.KernelIdeal.Gen.facts, Cert.ReferenceIdeal.Gen.facts, preFacts,
    frame_Kernel, frame_KernelIdeal, frame_KernelIdeal_pre, frame_ReferenceIdeal, frame_ReferenceIdeal_pre, trivial, algebraic⟩

end Cert.Proof

end
